-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S3x512x1024 : Shape := ⟨3, ![3, 512, 1024]⟩
abbrev S3x1024x512 : Shape := ⟨3, ![3, 1024, 512]⟩
abbrev S3x4x1x64x512 : Shape := ⟨5, ![3, 4, 1, 64, 512]⟩
abbrev S6 : Shape := ⟨1, ![6]⟩
abbrev S2 : Shape := ⟨1, ![2]⟩
abbrev S1 : Shape := ⟨1, ![1]⟩
abbrev S3x3x1 : Shape := ⟨3, ![3, 3, 1]⟩
abbrev S3x4x1 : Shape := ⟨3, ![3, 4, 1]⟩
abbrev S_ : Shape := ⟨0, ![]⟩
abbrev S1x512x512 : Shape := ⟨3, ![1, 512, 512]⟩
abbrev S512x512 : Shape := ⟨2, ![512, 512]⟩
abbrev S1x1024x512 : Shape := ⟨3, ![1, 1024, 512]⟩
abbrev S1x512x1024 : Shape := ⟨3, ![1, 512, 1024]⟩
abbrev S64x1024 : Shape := ⟨2, ![64, 1024]⟩
abbrev S1x1x1x64x512 : Shape := ⟨5, ![1, 1, 1, 64, 512]⟩
abbrev S1x1x1 : Shape := ⟨3, ![1, 1, 1]⟩

abbrev nBuf : Space → Nat
  | .hbm => 8
  | .vmem => 5
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S64x512, .bf16⟩
  | .local _ .vmem, ⟨0, _⟩ => ⟨S64x512, .f32⟩
  | .local _ .vmem, ⟨1, _⟩ => ⟨S3x512x1024, .f32⟩
  | .local _ .vmem, ⟨2, _⟩ => ⟨S3x1024x512, .f32⟩
  | .local _ .vmem, ⟨3, _⟩ => ⟨S3x4x1x64x512, .bf16⟩
  | .local _ .vmem, ⟨4, _⟩ => ⟨S64x512, .bf16⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v36 : BitVec 32 := Scalar.addi v2 c1_i32_28
  let c4_i32_29 : BitVec 32 := 4#32
  let c0_i32_30 : BitVec 32 := 0#32
  let v37 : BitVec 1 := Scalar.cmpi .eq c4_i32_29 c0_i32_30
  let c1_i32_31 : BitVec 32 := 1#32
  let v38 : BitVec 32 := Scalar.select v37 c1_i32_31 c4_i32_29
  let v39 : BitVec 32 := Scalar.remsi v36 v38
  let c0_i32_33 : BitVec 32 := 0#32
  let v41 : BitVec 1 := Scalar.cmpi .slt v39 c0_i32_33
  let c0_i32_34 : BitVec 32 := 0#32
  let v42 : BitVec 1 := Scalar.cmpi .slt v38 c0_i32_34
  let v43 : BitVec 1 := Scalar.xori v41 v42
  let c0_i32_32 : BitVec 32 := 0#32
  let v40 : BitVec 1 := Scalar.cmpi .ne v39 c0_i32_32
  let v44 : BitVec 1 := Scalar.andi v43 v40
  let v45 : BitVec 32 := Scalar.addi v39 v38
  let v46 : BitVec 32 := Scalar.select v44 v45 v39
  let c1_i32_36 : BitVec 32 := 1#32
  let v47 : BitVec 32 := Scalar.muli v46 c1_i32_36
  let v48 : BitVec 32 := Scalar.addi c0_i32_37 v47
  v48.toNat
def k0_dev2 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_38 : BitVec 32 := 2#32
  let v49 : BitVec 32 := Scalar.addi v2 c2_i32_38
  let c4_i32_39 : BitVec 32 := 4#32
  let c0_i32_40 : BitVec 32 := 0#32
  let v50 : BitVec 1 := Scalar.cmpi .eq c4_i32_39 c0_i32_40
  let c1_i32_41 : BitVec 32 := 1#32
  let v51 : BitVec 32 := Scalar.select v50 c1_i32_41 c4_i32_39
  let v52 : BitVec 32 := Scalar.remsi v49 v51
  let c0_i32_43 : BitVec 32 := 0#32
  let v54 : BitVec 1 := Scalar.cmpi .slt v52 c0_i32_43
  let c0_i32_44 : BitVec 32 := 0#32
  let v55 : BitVec 1 := Scalar.cmpi .slt v51 c0_i32_44
  let v56 : BitVec 1 := Scalar.xori v54 v55
  let c0_i32_42 : BitVec 32 := 0#32
  let v53 : BitVec 1 := Scalar.cmpi .ne v52 c0_i32_42
  let v57 : BitVec 1 := Scalar.andi v56 v53
  let v58 : BitVec 32 := Scalar.addi v52 v51
  let v59 : BitVec 32 := Scalar.select v57 v58 v52
  let c1_i32_46 : BitVec 32 := 1#32
  let v60 : BitVec 32 := Scalar.muli v59 c1_i32_46
  let v61 : BitVec 32 := Scalar.addi c0_i32_47 v60
  v61.toNat
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_48 : BitVec 32 := 3#32
  let v62 : BitVec 32 := Scalar.addi v2 c3_i32_48
  let c4_i32_49 : BitVec 32 := 4#32
  let c0_i32_50 : BitVec 32 := 0#32
  let v63 : BitVec 1 := Scalar.cmpi .eq c4_i32_49 c0_i32_50
  let c1_i32_51 : BitVec 32 := 1#32
  let v64 : BitVec 32 := Scalar.select v63 c1_i32_51 c4_i32_49
  let v65 : BitVec 32 := Scalar.remsi v62 v64
  let c0_i32_53 : BitVec 32 := 0#32
  let v67 : BitVec 1 := Scalar.cmpi .slt v65 c0_i32_53
  let c0_i32_54 : BitVec 32 := 0#32
  let v68 : BitVec 1 := Scalar.cmpi .slt v64 c0_i32_54
  let v69 : BitVec 1 := Scalar.xori v67 v68
  let c0_i32_52 : BitVec 32 := 0#32
  let v66 : BitVec 1 := Scalar.cmpi .ne v65 c0_i32_52
  let v70 : BitVec 1 := Scalar.andi v69 v66
  let v71 : BitVec 32 := Scalar.addi v65 v64
  let v72 : BitVec 32 := Scalar.select v70 v71 v65
  let c1_i32_56 : BitVec 32 := 1#32
  let v73 : BitVec 32 := Scalar.muli v72 c1_i32_56
  let v74 : BitVec 32 := Scalar.addi c0_i32_57 v73
  v74.toNat
def k0_off1 (d0 : Dev nD) : Fin 5 → Nat :=
  let c0_88 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v110 : Index := Scalar.indexCast v2
  let c0_89 : Index := 0#32
  let c0_90 : Index := 0#32
  let c0_91 : Index := 0#32
  ![0, v110.toNat, 0, 0, 0]
def k0_off2 (d0 : Dev nD) : Fin 3 → Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_104 : BitVec 32 := 0#32
  ![0, v2.toNat, 0]
def k0_off3 (d0 : Dev nD) : Fin 5 → Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_102 : BitVec 32 := 0#32
  let c0_i32_110 : BitVec 32 := 0#32
  let c0_i32_111 : BitVec 32 := 0#32
  ![0, v2.toNat, 0, 0, 0]
def k0_dev4 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_92 : BitVec 32 := 2#32
  let v114 : BitVec 32 := Scalar.addi v2 c2_i32_92
  let c4_i32_93 : BitVec 32 := 4#32
  let c0_i32_94 : BitVec 32 := 0#32
  let v115 : BitVec 1 := Scalar.cmpi .eq c4_i32_93 c0_i32_94
  let c1_i32_95 : BitVec 32 := 1#32
  let v116 : BitVec 32 := Scalar.select v115 c1_i32_95 c4_i32_93
  let v117 : BitVec 32 := Scalar.remsi v114 v116
  let c0_i32_97 : BitVec 32 := 0#32
  let v119 : BitVec 1 := Scalar.cmpi .slt v117 c0_i32_97
  let c0_i32_98 : BitVec 32 := 0#32
  let v120 : BitVec 1 := Scalar.cmpi .slt v116 c0_i32_98
  let v121 : BitVec 1 := Scalar.xori v119 v120
  let c0_i32_96 : BitVec 32 := 0#32
  let v118 : BitVec 1 := Scalar.cmpi .ne v117 c0_i32_96
  let v122 : BitVec 1 := Scalar.andi v121 v118
  let v123 : BitVec 32 := Scalar.addi v117 v116
  let v124 : BitVec 32 := Scalar.select v122 v123 v117
  let c1_i32_108 : BitVec 32 := 1#32
  let v125 : BitVec 32 := Scalar.muli v124 c1_i32_108
  let v126 : BitVec 32 := Scalar.addi c0_i32_109 v125
  v126.toNat
def k0_dev5 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_114 : BitVec 32 := 1#32
  let v135 : BitVec 32 := Scalar.addi v2 c1_i32_114
  let c4_i32_115 : BitVec 32 := 4#32
  let c0_i32_116 : BitVec 32 := 0#32
  let v136 : BitVec 1 := Scalar.cmpi .eq c4_i32_115 c0_i32_116
  let c1_i32_117 : BitVec 32 := 1#32
  let v137 : BitVec 32 := Scalar.select v136 c1_i32_117 c4_i32_115
  let v138 : BitVec 32 := Scalar.remsi v135 v137
  let c0_i32_119 : BitVec 32 := 0#32
  let v140 : BitVec 1 := Scalar.cmpi .slt v138 c0_i32_119
  let c0_i32_120 : BitVec 32 := 0#32
  let v141 : BitVec 1 := Scalar.cmpi .slt v137 c0_i32_120
  let v142 : BitVec 1 := Scalar.xori v140 v141
  let c0_i32_118 : BitVec 32 := 0#32
  let v139 : BitVec 1 := Scalar.cmpi .ne v138 c0_i32_118
  let v143 : BitVec 1 := Scalar.andi v142 v139
  let v144 : BitVec 32 := Scalar.addi v138 v137
  let v145 : BitVec 32 := Scalar.select v143 v144 v138
  let c1_i32_130 : BitVec 32 := 1#32
  let v146 : BitVec 32 := Scalar.muli v145 c1_i32_130
  let v147 : BitVec 32 := Scalar.addi c0_i32_131 v146
  v147.toNat
def k0_dev6 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_136 : BitVec 32 := 3#32
  let v156 : BitVec 32 := Scalar.addi v2 c3_i32_136
  let c4_i32_137 : BitVec 32 := 4#32
  let c0_i32_138 : BitVec 32 := 0#32
  let v157 : BitVec 1 := Scalar.cmpi .eq c4_i32_137 c0_i32_138
  let c1_i32_139 : BitVec 32 := 1#32
  let v158 : BitVec 32 := Scalar.select v157 c1_i32_139 c4_i32_137
  let v159 : BitVec 32 := Scalar.remsi v156 v158
  let c0_i32_141 : BitVec 32 := 0#32
  let v161 : BitVec 1 := Scalar.cmpi .slt v159 c0_i32_141
  let c0_i32_142 : BitVec 32 := 0#32
  let v162 : BitVec 1 := Scalar.cmpi .slt v158 c0_i32_142
  let v163 : BitVec 1 := Scalar.xori v161 v162
  let c0_i32_140 : BitVec 32 := 0#32
  let v160 : BitVec 1 := Scalar.cmpi .ne v159 c0_i32_140
  let v164 : BitVec 1 := Scalar.andi v163 v160
  let v165 : BitVec 32 := Scalar.addi v159 v158
  let v166 : BitVec 32 := Scalar.select v164 v165 v159
  let c1_i32_152 : BitVec 32 := 1#32
  let v167 : BitVec 32 := Scalar.muli v166 c1_i32_152
  let v168 : BitVec 32 := Scalar.addi c0_i32_153 v167
  v168.toNat
def k0_off4 (d0 : Dev nD) (c1_i32_171 : BitVec 32) : Fin 3 → Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v191 : BitVec 32 := Scalar.addi v2 c1_i32_171
  let c4_i32_172 : BitVec 32 := 4#32
  let c0_i32_173 : BitVec 32 := 0#32
  let v192 : BitVec 1 := Scalar.cmpi .eq c4_i32_172 c0_i32_173
  let c1_i32_174 : BitVec 32 := 1#32
  let v193 : BitVec 32 := Scalar.select v192 c1_i32_174 c4_i32_172
  let v194 : BitVec 32 := Scalar.remsi v191 v193
  let c0_i32_176 : BitVec 32 := 0#32
  let v196 : BitVec 1 := Scalar.cmpi .slt v194 c0_i32_176
  let c0_i32_177 : BitVec 32 := 0#32
  let v197 : BitVec 1 := Scalar.cmpi .slt v193 c0_i32_177
  let v198 : BitVec 1 := Scalar.xori v196 v197
  let c0_i32_175 : BitVec 32 := 0#32
  let v195 : BitVec 1 := Scalar.cmpi .ne v194 c0_i32_175
  let v199 : BitVec 1 := Scalar.andi v198 v195
  let v200 : BitVec 32 := Scalar.addi v194 v193
  let v201 : BitVec 32 := Scalar.select v199 v200 v194
  let c0_i32_183 : BitVec 32 := 0#32
  ![0, v201.toNat, 0]
def k0_off5 (d0 : Dev nD) (c1_i32_171 : BitVec 32) : Fin 5 → Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v191 : BitVec 32 := Scalar.addi v2 c1_i32_171
  let c4_i32_172 : BitVec 32 := 4#32
  let c0_i32_173 : BitVec 32 := 0#32
  let v192 : BitVec 1 := Scalar.cmpi .eq c4_i32_172 c0_i32_173
  let c1_i32_174 : BitVec 32 := 1#32
  let v193 : BitVec 32 := Scalar.select v192 c1_i32_174 c4_i32_172
  let v194 : BitVec 32 := Scalar.remsi v191 v193
  let c0_i32_176 : BitVec 32 := 0#32
  let v196 : BitVec 1 := Scalar.cmpi .slt v194 c0_i32_176
  let c0_i32_177 : BitVec 32 := 0#32
  let v197 : BitVec 1 := Scalar.cmpi .slt v193 c0_i32_177
  let v198 : BitVec 1 := Scalar.xori v196 v197
  let c0_i32_175 : BitVec 32 := 0#32
  let v195 : BitVec 1 := Scalar.cmpi .ne v194 c0_i32_175
  let v199 : BitVec 1 := Scalar.andi v198 v195
  let v200 : BitVec 32 := Scalar.addi v194 v193
  let v201 : BitVec 32 := Scalar.select v199 v200 v194
  let c0_i32_181 : BitVec 32 := 0#32
  let c0_i32_189 : BitVec 32 := 0#32
  let c0_i32_190 : BitVec 32 := 0#32
  ![0, v201.toNat, 0, 0, 0]
def k0_off6 (d0 : Dev nD) (c1_i32_171 : BitVec 32) : Fin 5 → Nat :=
  let c0_193 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v191 : BitVec 32 := Scalar.addi v2 c1_i32_171
  let c4_i32_172 : BitVec 32 := 4#32
  let c0_i32_173 : BitVec 32 := 0#32
  let v192 : BitVec 1 := Scalar.cmpi .eq c4_i32_172 c0_i32_173
  let c1_i32_174 : BitVec 32 := 1#32
  let v193 : BitVec 32 := Scalar.select v192 c1_i32_174 c4_i32_172
  let v194 : BitVec 32 := Scalar.remsi v191 v193
  let c0_i32_176 : BitVec 32 := 0#32
  let v196 : BitVec 1 := Scalar.cmpi .slt v194 c0_i32_176
  let c0_i32_177 : BitVec 32 := 0#32
  let v197 : BitVec 1 := Scalar.cmpi .slt v193 c0_i32_177
  let v198 : BitVec 1 := Scalar.xori v196 v197
  let c0_i32_175 : BitVec 32 := 0#32
  let v195 : BitVec 1 := Scalar.cmpi .ne v194 c0_i32_175
  let v199 : BitVec 1 := Scalar.andi v198 v195
  let v200 : BitVec 32 := Scalar.addi v194 v193
  let v201 : BitVec 32 := Scalar.select v199 v200 v194
  let v210 : Index := Scalar.indexCast v201
  let c0_194 : Index := 0#32
  let c0_195 : Index := 0#32
  let c0_196 : Index := 0#32
  ![0, v210.toNat, 0, 0, 0]
def k0_off7 (d0 : Dev nD) : Fin 5 → Nat :=
  let c1_252 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v270 : Index := Scalar.indexCast v2
  let c0_253 : Index := 0#32
  let c0_254 : Index := 0#32
  let c0_255 : Index := 0#32
  ![1, v270.toNat, 0, 0, 0]
def k0_off8 (d0 : Dev nD) : Fin 3 → Nat :=
  let c1_i32_267 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_268 : BitVec 32 := 0#32
  ![1, v2.toNat, 0]
def k0_off9 (d0 : Dev nD) : Fin 5 → Nat :=
  let c1_i32_265 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_266 : BitVec 32 := 0#32
  let c0_i32_274 : BitVec 32 := 0#32
  let c0_i32_275 : BitVec 32 := 0#32
  ![1, v2.toNat, 0, 0, 0]
def k0_dev7 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_256 : BitVec 32 := 2#32
  let v274 : BitVec 32 := Scalar.addi v2 c2_i32_256
  let c4_i32_257 : BitVec 32 := 4#32
  let c0_i32_258 : BitVec 32 := 0#32
  let v275 : BitVec 1 := Scalar.cmpi .eq c4_i32_257 c0_i32_258
  let c1_i32_259 : BitVec 32 := 1#32
  let v276 : BitVec 32 := Scalar.select v275 c1_i32_259 c4_i32_257
  let v277 : BitVec 32 := Scalar.remsi v274 v276
  let c0_i32_261 : BitVec 32 := 0#32
  let v279 : BitVec 1 := Scalar.cmpi .slt v277 c0_i32_261
  let c0_i32_262 : BitVec 32 := 0#32
  let v280 : BitVec 1 := Scalar.cmpi .slt v276 c0_i32_262
  let v281 : BitVec 1 := Scalar.xori v279 v280
  let c0_i32_260 : BitVec 32 := 0#32
  let v278 : BitVec 1 := Scalar.cmpi .ne v277 c0_i32_260
  let v282 : BitVec 1 := Scalar.andi v281 v278
  let v283 : BitVec 32 := Scalar.addi v277 v276
  let v284 : BitVec 32 := Scalar.select v282 v283 v277
  let c1_i32_272 : BitVec 32 := 1#32
  let v285 : BitVec 32 := Scalar.muli v284 c1_i32_272
  let v286 : BitVec 32 := Scalar.addi c0_i32_273 v285
  v286.toNat
def k0_dev8 (d0 : Dev nD) : Nat :=
  let c0_i32_295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_278 : BitVec 32 := 1#32
  let v295 : BitVec 32 := Scalar.addi v2 c1_i32_278
  let c4_i32_279 : BitVec 32 := 4#32
  let c0_i32_280 : BitVec 32 := 0#32
  let v296 : BitVec 1 := Scalar.cmpi .eq c4_i32_279 c0_i32_280
  let c1_i32_281 : BitVec 32 := 1#32
  let v297 : BitVec 32 := Scalar.select v296 c1_i32_281 c4_i32_279
  let v298 : BitVec 32 := Scalar.remsi v295 v297
  let c0_i32_283 : BitVec 32 := 0#32
  let v300 : BitVec 1 := Scalar.cmpi .slt v298 c0_i32_283
  let c0_i32_284 : BitVec 32 := 0#32
  let v301 : BitVec 1 := Scalar.cmpi .slt v297 c0_i32_284
  let v302 : BitVec 1 := Scalar.xori v300 v301
  let c0_i32_282 : BitVec 32 := 0#32
  let v299 : BitVec 1 := Scalar.cmpi .ne v298 c0_i32_282
  let v303 : BitVec 1 := Scalar.andi v302 v299
  let v304 : BitVec 32 := Scalar.addi v298 v297
  let v305 : BitVec 32 := Scalar.select v303 v304 v298
  let c1_i32_294 : BitVec 32 := 1#32
  let v306 : BitVec 32 := Scalar.muli v305 c1_i32_294
  let v307 : BitVec 32 := Scalar.addi c0_i32_295 v306
  v307.toNat
def k0_dev9 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_300 : BitVec 32 := 3#32
  let v316 : BitVec 32 := Scalar.addi v2 c3_i32_300
  let c4_i32_301 : BitVec 32 := 4#32
  let c0_i32_302 : BitVec 32 := 0#32
  let v317 : BitVec 1 := Scalar.cmpi .eq c4_i32_301 c0_i32_302
  let c1_i32_303 : BitVec 32 := 1#32
  let v318 : BitVec 32 := Scalar.select v317 c1_i32_303 c4_i32_301
  let v319 : BitVec 32 := Scalar.remsi v316 v318
  let c0_i32_305 : BitVec 32 := 0#32
  let v321 : BitVec 1 := Scalar.cmpi .slt v319 c0_i32_305
  let c0_i32_306 : BitVec 32 := 0#32
  let v322 : BitVec 1 := Scalar.cmpi .slt v318 c0_i32_306
  let v323 : BitVec 1 := Scalar.xori v321 v322
  let c0_i32_304 : BitVec 32 := 0#32
  let v320 : BitVec 1 := Scalar.cmpi .ne v319 c0_i32_304
  let v324 : BitVec 1 := Scalar.andi v323 v320
  let v325 : BitVec 32 := Scalar.addi v319 v318
  let v326 : BitVec 32 := Scalar.select v324 v325 v319
  let c1_i32_316 : BitVec 32 := 1#32
  let v327 : BitVec 32 := Scalar.muli v326 c1_i32_316
  let v328 : BitVec 32 := Scalar.addi c0_i32_317 v327
  v328.toNat
def k0_off10 (d0 : Dev nD) (c1_i32_335 : BitVec 32) : Fin 3 → Nat :=
  let c1_i32_346 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v351 : BitVec 32 := Scalar.addi v2 c1_i32_335
  let c4_i32_336 : BitVec 32 := 4#32
  let c0_i32_337 : BitVec 32 := 0#32
  let v352 : BitVec 1 := Scalar.cmpi .eq c4_i32_336 c0_i32_337
  let c1_i32_338 : BitVec 32 := 1#32
  let v353 : BitVec 32 := Scalar.select v352 c1_i32_338 c4_i32_336
  let v354 : BitVec 32 := Scalar.remsi v351 v353
  let c0_i32_340 : BitVec 32 := 0#32
  let v356 : BitVec 1 := Scalar.cmpi .slt v354 c0_i32_340
  let c0_i32_341 : BitVec 32 := 0#32
  let v357 : BitVec 1 := Scalar.cmpi .slt v353 c0_i32_341
  let v358 : BitVec 1 := Scalar.xori v356 v357
  let c0_i32_339 : BitVec 32 := 0#32
  let v355 : BitVec 1 := Scalar.cmpi .ne v354 c0_i32_339
  let v359 : BitVec 1 := Scalar.andi v358 v355
  let v360 : BitVec 32 := Scalar.addi v354 v353
  let v361 : BitVec 32 := Scalar.select v359 v360 v354
  let c0_i32_347 : BitVec 32 := 0#32
  ![1, v361.toNat, 0]
def k0_off11 (d0 : Dev nD) (c1_i32_335 : BitVec 32) : Fin 5 → Nat :=
  let c1_i32_344 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v351 : BitVec 32 := Scalar.addi v2 c1_i32_335
  let c4_i32_336 : BitVec 32 := 4#32
  let c0_i32_337 : BitVec 32 := 0#32
  let v352 : BitVec 1 := Scalar.cmpi .eq c4_i32_336 c0_i32_337
  let c1_i32_338 : BitVec 32 := 1#32
  let v353 : BitVec 32 := Scalar.select v352 c1_i32_338 c4_i32_336
  let v354 : BitVec 32 := Scalar.remsi v351 v353
  let c0_i32_340 : BitVec 32 := 0#32
  let v356 : BitVec 1 := Scalar.cmpi .slt v354 c0_i32_340
  let c0_i32_341 : BitVec 32 := 0#32
  let v357 : BitVec 1 := Scalar.cmpi .slt v353 c0_i32_341
  let v358 : BitVec 1 := Scalar.xori v356 v357
  let c0_i32_339 : BitVec 32 := 0#32
  let v355 : BitVec 1 := Scalar.cmpi .ne v354 c0_i32_339
  let v359 : BitVec 1 := Scalar.andi v358 v355
  let v360 : BitVec 32 := Scalar.addi v354 v353
  let v361 : BitVec 32 := Scalar.select v359 v360 v354
  let c0_i32_345 : BitVec 32 := 0#32
  let c0_i32_353 : BitVec 32 := 0#32
  let c0_i32_354 : BitVec 32 := 0#32
  ![1, v361.toNat, 0, 0, 0]
def k0_off12 (d0 : Dev nD) (c1_i32_335 : BitVec 32) : Fin 5 → Nat :=
  let c1_357 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v351 : BitVec 32 := Scalar.addi v2 c1_i32_335
  let c4_i32_336 : BitVec 32 := 4#32
  let c0_i32_337 : BitVec 32 := 0#32
  let v352 : BitVec 1 := Scalar.cmpi .eq c4_i32_336 c0_i32_337
  let c1_i32_338 : BitVec 32 := 1#32
  let v353 : BitVec 32 := Scalar.select v352 c1_i32_338 c4_i32_336
  let v354 : BitVec 32 := Scalar.remsi v351 v353
  let c0_i32_340 : BitVec 32 := 0#32
  let v356 : BitVec 1 := Scalar.cmpi .slt v354 c0_i32_340
  let c0_i32_341 : BitVec 32 := 0#32
  let v357 : BitVec 1 := Scalar.cmpi .slt v353 c0_i32_341
  let v358 : BitVec 1 := Scalar.xori v356 v357
  let c0_i32_339 : BitVec 32 := 0#32
  let v355 : BitVec 1 := Scalar.cmpi .ne v354 c0_i32_339
  let v359 : BitVec 1 := Scalar.andi v358 v355
  let v360 : BitVec 32 := Scalar.addi v354 v353
  let v361 : BitVec 32 := Scalar.select v359 v360 v354
  let v370 : Index := Scalar.indexCast v361
  let c0_358 : Index := 0#32
  let c0_359 : Index := 0#32
  let c0_360 : Index := 0#32
  ![1, v370.toNat, 0, 0, 0]
def k0_off13 (d0 : Dev nD) : Fin 5 → Nat :=
  let c2_416 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v430 : Index := Scalar.indexCast v2
  let c0_417 : Index := 0#32
  let c0_418 : Index := 0#32
  let c0_419 : Index := 0#32
  ![2, v430.toNat, 0, 0, 0]
def k0_off14 (d0 : Dev nD) : Fin 3 → Nat :=
  let c2_i32_431 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_432 : BitVec 32 := 0#32
  ![2, v2.toNat, 0]
def k0_off15 (d0 : Dev nD) : Fin 5 → Nat :=
  let c2_i32_429 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_430 : BitVec 32 := 0#32
  let c0_i32_438 : BitVec 32 := 0#32
  let c0_i32_439 : BitVec 32 := 0#32
  ![2, v2.toNat, 0, 0, 0]
def k0_dev10 (d0 : Dev nD) : Nat :=
  let c0_i32_437 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_420 : BitVec 32 := 2#32
  let v434 : BitVec 32 := Scalar.addi v2 c2_i32_420
  let c4_i32_421 : BitVec 32 := 4#32
  let c0_i32_422 : BitVec 32 := 0#32
  let v435 : BitVec 1 := Scalar.cmpi .eq c4_i32_421 c0_i32_422
  let c1_i32_423 : BitVec 32 := 1#32
  let v436 : BitVec 32 := Scalar.select v435 c1_i32_423 c4_i32_421
  let v437 : BitVec 32 := Scalar.remsi v434 v436
  let c0_i32_425 : BitVec 32 := 0#32
  let v439 : BitVec 1 := Scalar.cmpi .slt v437 c0_i32_425
  let c0_i32_426 : BitVec 32 := 0#32
  let v440 : BitVec 1 := Scalar.cmpi .slt v436 c0_i32_426
  let v441 : BitVec 1 := Scalar.xori v439 v440
  let c0_i32_424 : BitVec 32 := 0#32
  let v438 : BitVec 1 := Scalar.cmpi .ne v437 c0_i32_424
  let v442 : BitVec 1 := Scalar.andi v441 v438
  let v443 : BitVec 32 := Scalar.addi v437 v436
  let v444 : BitVec 32 := Scalar.select v442 v443 v437
  let c1_i32_436 : BitVec 32 := 1#32
  let v445 : BitVec 32 := Scalar.muli v444 c1_i32_436
  let v446 : BitVec 32 := Scalar.addi c0_i32_437 v445
  v446.toNat
def k0_dev11 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_442 : BitVec 32 := 1#32
  let v455 : BitVec 32 := Scalar.addi v2 c1_i32_442
  let c4_i32_443 : BitVec 32 := 4#32
  let c0_i32_444 : BitVec 32 := 0#32
  let v456 : BitVec 1 := Scalar.cmpi .eq c4_i32_443 c0_i32_444
  let c1_i32_445 : BitVec 32 := 1#32
  let v457 : BitVec 32 := Scalar.select v456 c1_i32_445 c4_i32_443
  let v458 : BitVec 32 := Scalar.remsi v455 v457
  let c0_i32_447 : BitVec 32 := 0#32
  let v460 : BitVec 1 := Scalar.cmpi .slt v458 c0_i32_447
  let c0_i32_448 : BitVec 32 := 0#32
  let v461 : BitVec 1 := Scalar.cmpi .slt v457 c0_i32_448
  let v462 : BitVec 1 := Scalar.xori v460 v461
  let c0_i32_446 : BitVec 32 := 0#32
  let v459 : BitVec 1 := Scalar.cmpi .ne v458 c0_i32_446
  let v463 : BitVec 1 := Scalar.andi v462 v459
  let v464 : BitVec 32 := Scalar.addi v458 v457
  let v465 : BitVec 32 := Scalar.select v463 v464 v458
  let c1_i32_458 : BitVec 32 := 1#32
  let v466 : BitVec 32 := Scalar.muli v465 c1_i32_458
  let v467 : BitVec 32 := Scalar.addi c0_i32_459 v466
  v467.toNat
def k0_dev12 (d0 : Dev nD) : Nat :=
  let c0_i32_481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_464 : BitVec 32 := 3#32
  let v476 : BitVec 32 := Scalar.addi v2 c3_i32_464
  let c4_i32_465 : BitVec 32 := 4#32
  let c0_i32_466 : BitVec 32 := 0#32
  let v477 : BitVec 1 := Scalar.cmpi .eq c4_i32_465 c0_i32_466
  let c1_i32_467 : BitVec 32 := 1#32
  let v478 : BitVec 32 := Scalar.select v477 c1_i32_467 c4_i32_465
  let v479 : BitVec 32 := Scalar.remsi v476 v478
  let c0_i32_469 : BitVec 32 := 0#32
  let v481 : BitVec 1 := Scalar.cmpi .slt v479 c0_i32_469
  let c0_i32_470 : BitVec 32 := 0#32
  let v482 : BitVec 1 := Scalar.cmpi .slt v478 c0_i32_470
  let v483 : BitVec 1 := Scalar.xori v481 v482
  let c0_i32_468 : BitVec 32 := 0#32
  let v480 : BitVec 1 := Scalar.cmpi .ne v479 c0_i32_468
  let v484 : BitVec 1 := Scalar.andi v483 v480
  let v485 : BitVec 32 := Scalar.addi v479 v478
  let v486 : BitVec 32 := Scalar.select v484 v485 v479
  let c1_i32_480 : BitVec 32 := 1#32
  let v487 : BitVec 32 := Scalar.muli v486 c1_i32_480
  let v488 : BitVec 32 := Scalar.addi c0_i32_481 v487
  v488.toNat
def k0_off16 (d0 : Dev nD) (c1_i32_486 : BitVec 32) : Fin 3 → Nat :=
  let c2_i32_497 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v497 : BitVec 32 := Scalar.addi v2 c1_i32_486
  let c4_i32_487 : BitVec 32 := 4#32
  let c0_i32_488 : BitVec 32 := 0#32
  let v498 : BitVec 1 := Scalar.cmpi .eq c4_i32_487 c0_i32_488
  let c1_i32_489 : BitVec 32 := 1#32
  let v499 : BitVec 32 := Scalar.select v498 c1_i32_489 c4_i32_487
  let v500 : BitVec 32 := Scalar.remsi v497 v499
  let c0_i32_491 : BitVec 32 := 0#32
  let v502 : BitVec 1 := Scalar.cmpi .slt v500 c0_i32_491
  let c0_i32_492 : BitVec 32 := 0#32
  let v503 : BitVec 1 := Scalar.cmpi .slt v499 c0_i32_492
  let v504 : BitVec 1 := Scalar.xori v502 v503
  let c0_i32_490 : BitVec 32 := 0#32
  let v501 : BitVec 1 := Scalar.cmpi .ne v500 c0_i32_490
  let v505 : BitVec 1 := Scalar.andi v504 v501
  let v506 : BitVec 32 := Scalar.addi v500 v499
  let v507 : BitVec 32 := Scalar.select v505 v506 v500
  let c0_i32_498 : BitVec 32 := 0#32
  ![2, v507.toNat, 0]
def k0_off17 (d0 : Dev nD) (c1_i32_486 : BitVec 32) : Fin 5 → Nat :=
  let c2_i32_495 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v497 : BitVec 32 := Scalar.addi v2 c1_i32_486
  let c4_i32_487 : BitVec 32 := 4#32
  let c0_i32_488 : BitVec 32 := 0#32
  let v498 : BitVec 1 := Scalar.cmpi .eq c4_i32_487 c0_i32_488
  let c1_i32_489 : BitVec 32 := 1#32
  let v499 : BitVec 32 := Scalar.select v498 c1_i32_489 c4_i32_487
  let v500 : BitVec 32 := Scalar.remsi v497 v499
  let c0_i32_491 : BitVec 32 := 0#32
  let v502 : BitVec 1 := Scalar.cmpi .slt v500 c0_i32_491
  let c0_i32_492 : BitVec 32 := 0#32
  let v503 : BitVec 1 := Scalar.cmpi .slt v499 c0_i32_492
  let v504 : BitVec 1 := Scalar.xori v502 v503
  let c0_i32_490 : BitVec 32 := 0#32
  let v501 : BitVec 1 := Scalar.cmpi .ne v500 c0_i32_490
  let v505 : BitVec 1 := Scalar.andi v504 v501
  let v506 : BitVec 32 := Scalar.addi v500 v499
  let v507 : BitVec 32 := Scalar.select v505 v506 v500
  let c0_i32_496 : BitVec 32 := 0#32
  let c0_i32_504 : BitVec 32 := 0#32
  let c0_i32_505 : BitVec 32 := 0#32
  ![2, v507.toNat, 0, 0, 0]
def k0_off18 (d0 : Dev nD) (c1_i32_486 : BitVec 32) : Fin 5 → Nat :=
  let c2_508 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v497 : BitVec 32 := Scalar.addi v2 c1_i32_486
  let c4_i32_487 : BitVec 32 := 4#32
  let c0_i32_488 : BitVec 32 := 0#32
  let v498 : BitVec 1 := Scalar.cmpi .eq c4_i32_487 c0_i32_488
  let c1_i32_489 : BitVec 32 := 1#32
  let v499 : BitVec 32 := Scalar.select v498 c1_i32_489 c4_i32_487
  let v500 : BitVec 32 := Scalar.remsi v497 v499
  let c0_i32_491 : BitVec 32 := 0#32
  let v502 : BitVec 1 := Scalar.cmpi .slt v500 c0_i32_491
  let c0_i32_492 : BitVec 32 := 0#32
  let v503 : BitVec 1 := Scalar.cmpi .slt v499 c0_i32_492
  let v504 : BitVec 1 := Scalar.xori v502 v503
  let c0_i32_490 : BitVec 32 := 0#32
  let v501 : BitVec 1 := Scalar.cmpi .ne v500 c0_i32_490
  let v505 : BitVec 1 := Scalar.andi v504 v501
  let v506 : BitVec 32 := Scalar.addi v500 v499
  let v507 : BitVec 32 := Scalar.select v505 v506 v500
  let v516 : Index := Scalar.indexCast v507
  let c0_509 : Index := 0#32
  let c0_510 : Index := 0#32
  let c0_511 : Index := 0#32
  ![2, v516.toNat, 0, 0, 0]
-- ==== ReferenceIdeal.lean ====
abbrev S64x512 : Shape := ⟨2, ![64, 512]⟩
abbrev S512x4096 : Shape := ⟨2, ![512, 4096]⟩
abbrev S4096x512 : Shape := ⟨2, ![4096, 512]⟩
abbrev S64x4096 : Shape := ⟨2, ![64, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x4096, .f32⟩
  | .hbm, ⟨2, _⟩ => ⟨S4096x512, .f32⟩
  | .hbm, ⟨3, _⟩ => ⟨S512x4096, .f32⟩
  | .hbm, ⟨4, _⟩ => ⟨S4096x512, .f32⟩
  | .hbm, ⟨5, _⟩ => ⟨S512x4096, .f32⟩
  | .hbm, ⟨6, _⟩ => ⟨S4096x512, .f32⟩
  | .hbm, ⟨7, _⟩ => ⟨S64x4096, .f32⟩
  | .hbm, ⟨8, _⟩ => ⟨S_, .f32⟩
  | .hbm, ⟨9, _⟩ => ⟨S64x4096, .f32⟩
  | .hbm, ⟨10, _⟩ => ⟨S64x4096, .f32⟩
  | .hbm, ⟨11, _⟩ => ⟨S64x512, .f32⟩
  | .hbm, ⟨12, _⟩ => ⟨S64x4096, .f32⟩
  | .hbm, ⟨13, _⟩ => ⟨S_, .f32⟩
  | .hbm, ⟨14, _⟩ => ⟨S64x4096, .f32⟩
  | .hbm, ⟨15, _⟩ => ⟨S64x4096, .f32⟩
  | .hbm, ⟨16, _⟩ => ⟨S64x512, .f32⟩
  | .hbm, ⟨17, _⟩ => ⟨S64x4096, .f32⟩
  | .hbm, ⟨18, _⟩ => ⟨S_, .f32⟩
  | .hbm, ⟨19, _⟩ => ⟨S64x4096, .f32⟩
  | .hbm, ⟨20, _⟩ => ⟨S64x4096, .f32⟩
  | .hbm, ⟨21, _⟩ => ⟨S64x512, .f32⟩
  | .hbm, ⟨22, _⟩ => ⟨S64x512, .bf16⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Proof.Cells.lean ====
/-
  The exchange between the four devices, as a protocol of semaphore cells: which device raises which cell, what each
  raise hands over, the order of the levels the waits respect, and one rule per kind of step the kernel takes in it.

  Every device holds a buffer of twelve slots, `[layer, sender]`. In each layer a device stores its own partial sum into
  its own slot and copies that slot to the same slot of its three peers. A receive cell per (layer, sender) counts the
  arrival, a send cell per (layer, peer) the departure; one barrier cell per device counts the three peers' entry, and
  an entry hands the entering device's slots of the receiver's messages to the receiver.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.MlpProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The rounds of the exchange: cells by device and semaphore, three duty names. -/
abbrev UB : Type := URounds (GSem nD τ sig) (Fin 3)
/-- The pipeline's rounds, the exchange's rounds, and the counters the local copies use. -/
abbrev UU : Type := UR sig nD τ × (UB × Counters)

local notation "𝕄" => MT nD τ sig Bool (Elt F) ℕ UU ℕ

abbrev EP : Emb (UR sig nD τ) (MT nD τ sig Bool (Elt F) ℕ UU ℕ) := embL
/-- Where the exchange's rounds live. -/
def ER : Emb UB (MT nD τ sig Bool (Elt F) ℕ UU ℕ) :=
  ((Emb.inl : Emb UB (UB × Counters)).trans (Emb.inr : Emb (UB × Counters) UU)).trans
    (uEmb (nD := nD) (sig := sig) (Ix := Bool) (Val := Elt F) (Name := ℕ) (U := UU) (Lvl := ℕ)).toEmb
instance ER_landsIn : (ER : Emb UB 𝕄).LandsIn (upEmb : UEmb _ 𝕄) := by unfold ER; infer_instance

/-! ## Devices -/

set_option backward.proofsInPublic true in
/-- The peer `j + 1` places after device `c`. -/
def rot (j : Fin 3) (c : Dev nD) : Dev nD := ⟨(c.val + j.val + 1) % 4, Nat.mod_lt _ (by decide)⟩
/-- The peer index that undoes `j`. -/
abbrev rev (j : Fin 3) : Fin 3 := ![2, 1, 0] j

theorem rot_rev (j : Fin 3) (c : Dev nD) : rot (rev j) (rot j c) = c := by revert j c; decide
theorem rot_rev' (j : Fin 3) (c : Dev nD) : rot j (rot (rev j) c) = c := by revert j c; decide
theorem rot_ne (j : Fin 3) (c : Dev nD) : rot j c ≠ c := by revert j c; decide

/-- Moving every device to its peer `j`, one to one. -/
def turn (j : Fin 3) : Dev nD ≃ Dev nD := ⟨rot j, rot (rev j), rot_rev j, rot_rev' j⟩

/-! ## Cells -/

/-- The barrier semaphore. -/
abbrev barS : Sem sig := (SemArray.scalar (sig.barrier 0 rfl) : Sems sig S_).sem
set_option backward.proofsInPublic true in
/-- The semaphore counting the departure of layer `k`'s copy to peer `j`. -/
def sendSem (k j : Fin 3) : DmaSem sig := ⟨9 + 3 * k.val + j.val, by show _ < 30; omega⟩
set_option backward.proofsInPublic true in
/-- The semaphore counting the arrival of layer `k`'s copy from sender `s`. -/
def recvSem (k : Fin 3) (s : Dev nD) : DmaSem sig :=
  ⟨18 + 4 * k.val + s.val, by have := s.isLt; have : s.val < 4 := this; show _ < 30; omega⟩

abbrev barCell (c : Dev nD) : GSem nD τ sig := ((c : Thread nD τ), .reg barS)
abbrev sendCell (c : Dev nD) (k j : Fin 3) : GSem nD τ sig := ((c : Thread nD τ), .dma (sendSem k j))
abbrev recvCell (c : Dev nD) (k : Fin 3) (s : Dev nD) : GSem nD τ sig := ((c : Thread nD τ), .dma (recvSem k s))

/-! ## Slots -/

abbrev commM : Memref sig .tc .vmem S3x4x1x64x512 .bf16 := Memref.whole cc0_scratch3

theorem slot_inb (k : Fin 3) (s : Dev nD) :
    ∀ a, (![k.val, s.val, 0, 0, 0] : Fin 5 → ℕ) a + S1x1x1x64x512.size a ≤ S3x4x1x64x512.size a := by
  revert k s; decide
/-- The rectangle of slot `[k, s]`. -/
abbrev slotR (k : Fin 3) (s : Dev nD) : Rect S3x4x1x64x512 := Rect.unit ![k.val, s.val, 0, 0, 0] S1x1x1x64x512.size (slot_inb k s)
/-- A slot as the copies name it, at any offsets. -/
abbrev slotAt (off : Fin 5 → ℕ) (h : ∀ a, off a + S1x1x1x64x512.size a ≤ S3x4x1x64x512.size a) : Memref sig .tc .vmem S64x512 .bf16 :=
  (commM.slice (Rect.unit off S1x1x1x64x512.size h) (fun _ => rfl)).squeeze S64x512 squeezes_S1x1x1x64x512_S64x512
/-- Slot `[k, s]`. -/
abbrev slotM (k : Fin 3) (s : Dev nD) : Memref sig .tc .vmem S64x512 .bf16 := slotAt ![k.val, s.val, 0, 0, 0] (slot_inb k s)

abbrev CBuf (c : Dev nD) : Type := Buf (Elt F) ((c : Thread nD τ).loc cc0_scratch3)

/-- Device `c`'s slot `[k, s]`, held at share `q`. -/
def slotPts (c : Dev nD) (k : Fin 3) (s : Dev nD) (q : PosShare TreeShare) (f : CBuf (F := F) c) : sProp 𝕄 :=
  (slotM k s).view.loc (c : Thread nD τ) ↦[(slotM k s).view.set]{q} f
instance slotPts_storable (c : Dev nD) (k : Fin 3) (s : Dev nD) (q) (f : CBuf (F := F) c) :
    BI.Storable (upEmb : UEmb _ 𝕄) (slotPts (F := F) c k s q f) := by unfold slotPts; infer_instance

/-- What a load of slot `[k, s]` reads. -/
def slotRead (k : Fin 3) (s : Dev nD) (f : (cc0_scratch3 : Ref sig .tc).ty.Contents (Elt F)) : Vec F S1x1x1x64x512 .bf16 :=
  commM.view.readAt (Elt F) (slotR k s).toLoadRect f

theorem slot_set (k : Fin 3) (s : Dev nD) : (slotM k s).view.set = (commM.access (slotR k s)).set := View.set_reshape _ _

/-- The words of one slot, in the units a transfer counts. -/
abbrev N : ℕ := (slotM 0 0).view.dmaCredit
theorem N_pos : 0 < N := View.dmaCredit_pos _ (by decide)

/-- Storing into a slot and loading it gives what was stored. -/
theorem slotRead_store (k : Fin 3) (s : Dev nD) (f : (cc0_scratch3 : Ref sig .tc).ty.Contents (Elt F)) (w : Vec F S1x1x1x64x512 .bf16) :
    slotRead k s ((commM.access (slotR k s)).write (Elt F) f w Finset.univ) = w :=
  View.read_write_univ (v := commM.access (slotR k s)) f w

/-- A copy from a slot to the same slot elsewhere carries what a load of it reads. -/
theorem slotRead_copy (k : Fin 3) (s : Dev nD) (fd fs : (cc0_scratch3 : Ref sig .tc).ty.Contents (Elt F)) :
    slotRead k s ((slotM k s).view.write (Elt F) fd ((slotM k s).view.read (Elt F) fs) Finset.univ) = slotRead k s fs := by
  rw [View.write_read_eq_piecewise]
  show (commM.access (slotR k s)).read (Elt F) _ = (commM.access (slotR k s)).read (Elt F) fs
  refine View.read_congr fun i hi => ?_
  exact Finset.piecewise_eq_of_mem _ _ _ (by rw [← slot_set] at hi; exact hi)

/-! ## The schedule -/

variable (cm : Fin 3 → Dev nD → Vec F S1x1x1x64x512 .bf16)

/-- Duty `j` of `c`'s barrier, paid by the device whose peer `j` is `c`: that device's slots of `c`'s messages. -/
def barPay (c : Dev nD) (j : Fin 3) : sProp 𝕄 :=
  bigSep Finset.univ fun k : Fin 3 => iprop(∃ f, slotPts (rot (rev j) c) k c fullShare f)
/-- The three shares in which a device lends its slot to its three copies. -/
abbrev shr (j : Fin 3) : PosShare TreeShare := ![fullShare.left, fullShare.right.left, fullShare.right.right] j
/-- The departure of layer `k`'s copy to peer `j` returns the share of the slot that copy read. -/
def sendPay (c : Dev nD) (k j : Fin 3) : sProp 𝕄 := iprop(∃ f, slotPts c k c (shr j) f)
/-- The arrival of layer `k`'s copy from `s` hands over the slot, holding `s`'s partial sum. -/
def recvPay (c : Dev nD) (k : Fin 3) (s : Dev nD) : sProp 𝕄 := iprop(∃ f, ⌜slotRead k s f = cm k s⌝ ∗ slotPts c k s fullShare f)

/-- The layer of the semaphore at place `n` of a run of `w` per layer. -/
def layerOf (w n : ℕ) : Fin 3 := ⟨n / w % 3, Nat.mod_lt _ (by decide)⟩

/-- One round: a barrier cell has three duties of one unit, a transfer cell one duty of a slot's words. -/
def sched : Rounds.Schedule (GSem nD τ sig) (Fin 3) 𝕄 where
  duties g r := if r = 0 then (match g.2 with | .reg _ => Finset.univ | .dma _ => {0}) else ∅
  unitless _ := False
  amount g _ _ := match g.2 with | .reg _ => 1 | .dma _ => N
  payload g _ d := match g.2 with
    | .reg _ => barPay g.1.1 d
    | .dma q => if q.val < 18 then sendPay g.1.1 (layerOf 3 (q.val - 9)) ⟨(q.val - 9) % 3, Nat.mod_lt _ (by decide)⟩
        else recvPay cm g.1.1 (layerOf 4 (q.val - 18)) ⟨(q.val - 18) % 4, Nat.mod_lt _ (by decide)⟩
  amount_pos g _ _ _ := by
    split
    · exact Nat.one_pos
    · exact N_pos

instance sched_payload_storable (g : GSem nD τ sig) (r : ℕ) (d : Fin 3) :
    BI.Storable (upEmb : UEmb _ 𝕄) ((sched (F := F) cm).payload g r d) := by
  dsimp only [sched]
  unfold barPay sendPay recvPay
  split
  · infer_instance
  · split <;> infer_instance

section Tables
variable (c : Dev nD) (k j : Fin 3) (s : Dev nD)

theorem duties_bar : (sched (F := F) cm).duties (barCell c) 0 = Finset.univ := rfl
theorem duties_dma (q : DmaSem sig) : (sched (F := F) cm).duties ((c : Thread nD τ), .dma q) 0 = {0} := rfl
theorem duties_later (g : GSem nD τ sig) : ∀ r, 1 ≤ r → (sched (F := F) cm).duties g r = ∅ :=
  fun r hr => if_neg (by omega)
theorem expect_bar : (sched (F := F) cm).expect (barCell c) 0 = 3 := by
  unfold Schedule.expect Schedule.amountOf
  rw [duties_bar]; exact Finset.sum_const_nat (m := 1) fun _ _ => rfl
theorem expect_dma (q : DmaSem sig) : (sched (F := F) cm).expect ((c : Thread nD τ), .dma q) 0 = N := by
  unfold Schedule.expect Schedule.amountOf
  rw [duties_dma, Finset.sum_singleton]; rfl
theorem payload_bar : (sched (F := F) cm).payload (barCell c) 0 j = barPay c j := rfl
theorem payload_send : (sched (F := F) cm).payload (sendCell c k j) 0 0 = sendPay c k j := by
  have h : ∀ k j : Fin 3, (sendSem k j).val < 18 ∧ layerOf 3 ((sendSem k j).val - 9) = k
      ∧ (⟨((sendSem k j).val - 9) % 3, Nat.mod_lt _ (by decide)⟩ : Fin 3) = j := by decide
  obtain ⟨h1, h2, h3⟩ := h k j
  dsimp only [sched]; rw [if_pos h1, h2, h3]
theorem payload_recv : (sched (F := F) cm).payload (recvCell c k s) 0 0 = recvPay cm c k s := by
  have h : ∀ (k : Fin 3) (s : Dev nD), ¬ (recvSem k s).val < 18 ∧ layerOf 4 ((recvSem k s).val - 18) = k
      ∧ (⟨((recvSem k s).val - 18) % 4, Nat.mod_lt _ (by decide)⟩ : Dev nD) = s := by decide
  obtain ⟨h1, h2, h3⟩ := h k s
  dsimp only [sched]; rw [if_neg h1, h2, h3]

end Tables

/-! ## What each device owes, and the order of the waits

Local transfers are counted at index `false`, the exchange at index `true`. The barrier is at level 1 and the receive
cells of layer `k` at level `2 + k`; everything else is at level 0. -/

/-- A step that pays another device: entering (`none`), or layer `k`'s copy (`some k`), for peer `j`. -/
abbrev Step : Type := Option (Fin 3) × Fin 3
/-- What that step raises. -/
def due (c : Dev nD) : Step → CellTallies nD τ sig Bool
  | (none, j) => tallyAt (barCell (rot j c)) true 1
  | (some k, j) => tallyAt (recvCell (rot j c) k c) true N
/-- What the steps `l` raise together, the first of them outermost. -/
def owed (c : Dev nD) : List Step → CellTallies nD τ sig Bool
  | [] => 0
  | a :: l => owed c l + due c a
/-! What is still to be paid after `n` of the twelve paying steps, in the kernel's order: `left n`. -/
abbrev left12 : List Step := []
abbrev left11 : List Step := (some 2, 2) :: left12
abbrev left10 : List Step := (some 2, 0) :: left11
abbrev left9 : List Step := (some 2, 1) :: left10
abbrev left8 : List Step := (some 1, 2) :: left9
abbrev left7 : List Step := (some 1, 0) :: left8
abbrev left6 : List Step := (some 1, 1) :: left7
abbrev left5 : List Step := (some 0, 2) :: left6
abbrev left4 : List Step := (some 0, 0) :: left5
abbrev left3 : List Step := (some 0, 1) :: left4
abbrev left2 : List Step := (none, 2) :: left3
abbrev left1 : List Step := (none, 1) :: left2
abbrev left0 : List Step := (none, 0) :: left1
/-- The level a step's raise is at. -/
def lvOf : Step → ℕ
  | (none, _) => 1
  | (some k, _) => 2 + k.val

def L (g : GSem nD τ sig) : Finset Bool := if g.1.2 = .tc then Finset.univ else ∅
def lv (g : GSem nD τ sig) (i : Bool) : ℕ :=
  if i = false then 0 else match g.2 with | .reg _ => 1 | .dma q => if q.val < 18 then 0 else 2 + (q.val - 18) / 4

theorem L_of_ne (g : GSem nD τ sig) (h : g.1.2 ≠ .tc) : L g = ∅ := if_neg h
theorem mem_L (c : Dev nD) (sm : SemLoc sig) (i : Bool) : i ∈ L ((c : Thread nD τ), sm) := by
  unfold L; rw [if_pos rfl]; exact Finset.mem_univ _

theorem due_pos {c : Dev nD} {a : Step} {g : GSem nD τ sig} {i : Bool} (h : 0 < due c a g i) : i ∈ L g ∧ lv g i = lvOf a := by
  obtain ⟨_ | k, j⟩ := a <;> dsimp only [due] at h <;> rw [tallyAt_apply] at h <;> split at h
  · rename_i h'; obtain ⟨rfl, rfl⟩ := h'; exact ⟨mem_L _ _ _, rfl⟩
  · exact absurd h (Nat.lt_irrefl 0)
  · rename_i h'; obtain ⟨rfl, rfl⟩ := h'
    have hk : ∀ (k : Fin 3) (s : Dev nD), ¬ (recvSem k s).val < 18 ∧ ((recvSem k s).val - 18) / 4 = k.val := by decide
    refine ⟨mem_L _ _ _, ?_⟩
    dsimp only [lv, lvOf]; rw [if_neg (by decide), if_neg (hk k c).1, (hk k c).2]
  · exact absurd h (Nat.lt_irrefl 0)

theorem owed_pos {c : Dev nD} {l : List Step} {g : GSem nD τ sig} {i : Bool} (h : 0 < owed c l g i) :
    ∃ a ∈ l, i ∈ L g ∧ lv g i = lvOf a := by
  induction l with
  | nil => exact absurd h (Nat.lt_irrefl 0)
  | cons a l ih =>
    rw [owed, Pi.add_apply, Finsupp.add_apply] at h
    rcases Nat.add_pos_iff_pos_or_pos.mp h with h | h
    · obtain ⟨b, hb, hl⟩ := ih h; exact ⟨b, List.mem_cons_of_mem _ hb, hl⟩
    · exact ⟨a, List.mem_cons_self, due_pos h⟩

/-- A wait below every step still to be paid may be made. -/
theorem mayWait_owed (c : Dev nD) (sm : SemLoc sig) (i : Bool) (l : List Step)
    (hl : ∀ a ∈ l, lv ((c : Thread nD τ), sm) i < lvOf a) :
    (levAts L lv : sProp 𝕄) ⊢ MayWait (c : Thread nD τ) sm i (owed c l) :=
  MayOwe.of_cut (L := L) (lev := lv) (lv ((c : Thread nD τ), sm) i)
    (fun p hp => by rw [Finset.mem_singleton.mp hp]; exact mem_L _ _ _)
    (fun g u hg => by obtain ⟨_, _, h, _⟩ := owed_pos hg; exact h)
    (fun p hp => by rw [Finset.mem_singleton.mp hp])
    (fun g u hg => by obtain ⟨a, ha, _, h⟩ := owed_pos hg; rw [h]; exact hl a ha)

theorem lvOf_pos (a : Step) : 0 < lvOf a := by
  obtain ⟨_ | k, j⟩ := a <;> dsimp only [lvOf] <;> omega

/-- A local wait may be made whatever a device still owes. -/
theorem mayWaits_local (c : Dev nD) (l : List Step) :
    (levAts L lv : sProp 𝕄) ⊢ Transfers.MayWaits (c : Thread nD τ) false (owed c l) :=
  Transfers.MayWaits.intro fun sm => mayWait_owed c sm false l fun a _ => by
    rw [show lv ((c : Thread nD τ), sm) false = 0 from rfl]; exact lvOf_pos a

/-! ## The names of the cells -/

/-- A device's cells: its barrier (`none`), its departures (`false`, layer, peer) and its arrivals (`true`, layer, peer). -/
abbrev CellIx : Type := Option (Bool × Fin 3 × Fin 3)
def cellAt (c : Dev nD) : CellIx → GSem nD τ sig
  | none => barCell c
  | some (false, k, j) => sendCell c k j
  | some (true, k, j) => recvCell c k (rot j c)
/-- The names under which the cells of all devices are recorded. -/
abbrev Names : Type := Dev nD × CellIx → ℕ
def recs (K : Names) : sProp 𝕄 :=
  iprop((bigSep Finset.univ fun x : Dev nD × CellIx => cellInv ER (sched cm) (K x) (cellAt x.1 x.2))
    ∗ bigSep Finset.univ fun x : Dev nD × CellIx => reached ER (cellAt x.1 x.2) 0)
instance recs_persistent (K : Names) : BI.Persistent (recs (F := F) cm K) := by unfold recs; infer_instance

end Cert.MlpProof
-- ==== Proof.Steps.lean ====
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic
public import proofs.«01_k».proof.Proof.Cells

@[expose] public section

noncomputable section

namespace Cert.MlpProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

abbrev 𝒱₀ : Variants := Variants.none

variable (cm : Fin 3 → Dev nD → Vec F S1x1x1x64x512 .bf16) (K : Names) (c : Dev nD)

/-! ## The record of a cell -/

theorem inv_at (i : CellIx) : (recs (F := F) cm K : sProp 𝕄) ⊢ cellInv ER (sched cm) (K (c, i)) (cellAt c i) := by
  unfold recs; exact sep_elim_left.trans (bigSep_elim (i := (c, i)) (Finset.mem_univ _))
theorem reached_at (i : CellIx) : (recs (F := F) cm K : sProp 𝕄) ⊢ reached ER (cellAt c i) 0 := by
  unfold recs; exact sep_elim_right.trans (bigSep_elim (i := (c, i)) (Finset.mem_univ _))

theorem peer_cell (k j : Fin 3) : cellAt (rot j c) (some (true, k, rev j)) = recvCell (rot j c) k c := by
  show recvCell (rot j c) k (rot (rev j) (rot j c)) = _; rw [rot_rev]

theorem inv_peer (k j : Fin 3) :
    (recs (F := F) cm K : sProp 𝕄) ⊢ cellInv ER (sched cm) (K (rot j c, some (true, k, rev j))) (recvCell (rot j c) k c) := by
  rw [← peer_cell]; exact inv_at cm K _ _
theorem reached_peer (k j : Fin 3) : (recs (F := F) cm K : sProp 𝕄) ⊢ reached ER (recvCell (rot j c) k c) 0 := by
  rw [← peer_cell]; exact reached_at cm K _ _

theorem rest_bar : bigSep ((sched (F := F) cm).duties (barCell c) 0 \ ∅) ((sched cm).payload (barCell c) 0)
    = bigSep Finset.univ fun j : Fin 3 => barPay c j := by
  rw [duties_bar, Finset.sdiff_empty]; rfl
theorem rest_send (k j : Fin 3) :
    bigSep ((sched (F := F) cm).duties (sendCell c k j) 0 \ ∅) ((sched cm).payload (sendCell c k j) 0) = sendPay c k j := by
  rw [duties_dma, Finset.sdiff_empty, bigSep_singleton, payload_send]
theorem rest_recv (k : Fin 3) (s : Dev nD) :
    bigSep ((sched (F := F) cm).duties (recvCell c k s) 0 \ ∅) ((sched cm).payload (recvCell c k s) 0)
      = iprop(∃ f, ⌜slotRead k s f = cm k s⌝ ∗ slotPts c k s fullShare f) := by
  rw [duties_dma, Finset.sdiff_empty, bigSep_singleton, payload_recv]; rfl

/-! ## One rule per kind of step -/

variable {W : Waits sig Bool} (l : List Step)

/-- Entering: the raise of peer `j`'s barrier hands over the slots of that peer's messages. -/
theorem step_signal (j : Fin 3) {n : Dev nD} (hn : n = rot j c) {q : Sem sig} (hq : q = barS) {k' : ℕ} (hk' : k' = 1)
    {α : Type} {Q : α → sProp 𝕄} {kk : PUnit → Prog (TpuEff nD τ sig (Elt F) Λ₀ .tc) α} :
    iprop(recs cm K ∗ owes (c : Thread nD τ) (owed c ((none, j) :: l)) W ∗ dutyTok ER (barCell (rot j c)) 0 j
        ∗ bigSep Finset.univ fun k : Fin 3 => iprop(∃ f, slotPts c k (rot j c) fullShare f))
      ⊢ iprop((owes (c : Thread nD τ) (owed c l) W -∗ wp frame (wpE (defs₀ (F := F)) 𝒱₀ (c : Thread nD τ) none) Set.univ (kk ⟨⟩) Q) -∗ wp frame (wpE (defs₀ (F := F)) 𝒱₀ (c : Thread nD τ) none) Set.univ (.op (.semSignal (n : Thread nD τ) q k') kk) Q) := by
  subst hn hq hk'
  iintro ⟨#Hr, HO, Ht, Hs⟩ Hk
  iapply (wp_signal 𝒱₀ ER (sched cm) (c : Thread nD τ) none (dst := (rot j c : Thread nD τ)) (κ := K (rot j c, none))
    (d := j) (by rw [duties_bar]; exact Finset.mem_univ _) rfl true (owed c l) rfl) $$ [HO Ht Hs]
  · isplitr; · iapply (inv_at cm K (rot j c) none); iexact Hr
    isplitl [HO]; · iexact HO
    isplitl [Ht]; · iexact Ht
    isplitl [Hs]
    · rw [payload_bar]; unfold barPay; rw [rot_rev]; iexact Hs
    · iapply (reached_at cm K (rot j c) none); iexact Hr
  iexact Hk

/-- Waiting until the three peers have entered: their slots of this device's messages come with it. -/
theorem step_barwait (hl : ∀ a ∈ l, 1 < lvOf a) {q : Sem sig} (hq : q = barS) {k' : ℕ} (hk' : k' = 3)
    {α : Type} {Q : α → sProp 𝕄} {kk : PUnit → Prog (TpuEff nD τ sig (Elt F) Λ₀ .tc) α} :
    iprop(recs cm K ∗ levAts L lv ∗ cred (tallyAt (barCell c) true 3) ∗ owes (c : Thread nD τ) (owed c l) W ∗ atPos ER (barCell c) 0 ∅ 0)
      ⊢ iprop(((owes (c : Thread nD τ) (owed c l) (insert (SemLoc.reg barS, true) W) ∗ semVal (barCell c) 0
            ∗ bigSep Finset.univ fun j : Fin 3 => barPay c j) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait q k') kk) Q) := by
  subst hq hk'
  iintro ⟨#Hr, #Hlev, Hc, HO, Hat⟩ Hk
  iapply (wp_wait_rest_token 𝒱₀ ER (sched cm) (c : Thread nD τ) none (κ := K (c, none))
      (wpE_semWait_eq 𝒱₀ (c : Thread nD τ) none Set.univ) (Set.mem_univ _) true (O := owed c l) (W := W) (R := 0) (m := 0) (T := ∅)
      (by rw [expect_bar])) $$ [Hc HO Hat]
  · isplitr; · iapply (inv_at cm K c none); iexact Hr
    isplitl [Hc]; · iexact Hc
    isplitl [HO]; · iexact HO
    isplitr; · iapply (mayWait_owed c (.reg barS) true l hl); iexact Hlev
    iexact Hat
  iintro ⟨HO, Hat, -, Hp⟩
  ihave Hp := (Entails.of_eq (rest_bar cm c)) $$ Hp
  ihave #HI := (inv_at cm K c none) $$ Hr
  imod (cell_close ER (sched cm) (Set.mem_univ (K (c, none))) (fun h => h) (R := 0 + 1) (duties_later cm (barCell c))) $$ [Hat] with Hz
  · isplitr; · iexact HI
    iexact Hat
  iapply Hk
  isplitl [HO]; · iexact HO
  isplitl [Hz]; · iexact Hz
  iexact Hp

/-- A returned value followed by the rest of a program is the rest at that value. -/
theorem ret_then {α β : Type} (a : α) (k : α → Prog (TpuEff nD τ sig (Elt F) Λ₀ .tc) β) : Prog.bind (Prog.ret a) k = k a := rfl

/-- A load of a slot. -/
theorem step_load (k : Fin 3) (s : Dev nD) (q : PosShare TreeShare) (f : CBuf (F := F) c) (v : Vec F S1x1x1x64x512 .bf16) (hv : slotRead k s f = v)
    {o : Fin 5 → ℕ} {h : ∀ a, o a + S1x1x1x64x512.size a ≤ S3x4x1x64x512.size a}
    (e : o = ![k.val, s.val, 0, 0, 0]) {hl : commM.view.LoadsAt (Rect.unit (s := S3x4x1x64x512) o S1x1x1x64x512.size h).toLoadRect}
    {α : Type} {R : α → sProp 𝕄} {kk : Vec F S1x1x1x64x512 .bf16 → Prog (TpuEff nD τ sig (Elt F) Λ₀ .tc) α} :
    slotPts c k s q f ⊢ iprop((slotPts c k s q f -∗ wp frame (wpE (defs₀ (F := F)) 𝒱₀ (c : Thread nD τ) none) Set.univ (kk v) R)
      -∗ wp frame (wpE (defs₀ (F := F)) 𝒱₀ (c : Thread nD τ) none) Set.univ (.op (.load commM (Rect.unit (s := S3x4x1x64x512) o S1x1x1x64x512.size h).toLoadRect hl) kk) R) := by
  subst e hv
  unfold slotPts slotRead
  exact wp_load_rect 𝒱₀ (c : Thread nD τ) none Set.univ (m := commM) (r := slotR k s) (by rw [slot_set])

/-- A store of a whole slot. -/
theorem step_store (k : Fin 3) (s : Dev nD) (f : CBuf (F := F) c) {o : Fin 5 → ℕ} {h : ∀ a, o a + S1x1x1x64x512.size a ≤ S3x4x1x64x512.size a}
    (e : o = ![k.val, s.val, 0, 0, 0]) (w : Vec F S1x1x1x64x512 .bf16)
    {hx : (commM.access (Rect.unit o S1x1x1x64x512.size h)).Stores Finset.univ} {hm}
    {α : Type} {Q : α → sProp 𝕄} {kk : PUnit → Prog (TpuEff nD τ sig (Elt F) Λ₀ .tc) α} :
    slotPts c k s fullShare f ⊢ iprop(((∃ f', ⌜slotRead k s f' = w⌝ ∗ slotPts c k s fullShare f') -∗ wp frame (wpE (defs₀ (F := F)) 𝒱₀ (c : Thread nD τ) none) Set.univ (kk ⟨⟩) Q)
      -∗ wp frame (wpE (defs₀ (F := F)) 𝒱₀ (c : Thread nD τ) none) Set.univ (.op (.store commM (Rect.unit o S1x1x1x64x512.size h) w Finset.univ hx hm) kk) Q) := by
  subst e
  unfold slotPts
  iintro Hs Hk
  iapply (wp_store 𝒱₀ (c : Thread nD τ) none Set.univ (m := commM) (r := slotR k s) (by rw [slot_set]; exact subset_rfl)) $$ Hs
  iintro Hs
  iapply Hk
  iexists _
  isplitr
  · ipureintro; exact slotRead_store k s f w
  · iexact Hs

/-- Layer `k`'s copy to peer `j`: a share of the own slot lent, the peer's slot filled, the arrival paid. -/
theorem step_send (k j : Fin 3) {n : Dev nD} (hn : n = rot j c)
    {o₁ o₂ : Fin 5 → ℕ} {h₁ : ∀ a, o₁ a + S1x1x1x64x512.size a ≤ S3x4x1x64x512.size a} {h₂ : ∀ a, o₂ a + S1x1x1x64x512.size a ≤ S3x4x1x64x512.size a}
    (e₁ : o₁ = ![k.val, c.val, 0, 0, 0]) (e₂ : o₂ = ![k.val, c.val, 0, 0, 0])
    {qs qr : DmaSem sig} (hs : qs = sendSem k j) (hr : qr = recvSem k c)
    {hsc : (slotAt o₂ h₂).view.ref.isScScratch = false} {hsrc : (slotAt o₁ h₁).view.WordExact} {hdst : (slotAt o₂ h₂).view.WordExact}
    {hsem : DmaTarget.Typed Space.vmem (SemLoc.dma qr) (DmaTarget.remote (n : Thread nD τ) (slotAt o₂ h₂) (.dma qs) hsc)}
    {α : Type} {Q : α → sProp 𝕄} {kk : PUnit → Prog (TpuEff nD τ sig (Elt F) Λ₀ .tc) α} (fs : CBuf (F := F) c) (hfs : slotRead k c fs = cm k c) :
    iprop(recs cm K ∗ slotPts c k c (shr j) fs ∗ (∃ f, slotPts (rot j c) k c fullShare f)
        ∗ dutyTok ER (sendCell c k j) 0 0 ∗ dutyTok ER (recvCell (rot j c) k c) 0 0
        ∗ owes (c : Thread nD τ) (owed c ((some k, j) :: l)) W)
      ⊢ iprop(((cred (tallyAt (sendCell c k j) true N) ∗ owes (c : Thread nD τ) (owed c l) W) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma (slotAt o₁ h₁) (.remote (n : Thread nD τ) (slotAt o₂ h₂) (.dma qs) hsc) (.dma qr) hsrc hdst hsem) kk) Q) := by
  subst hn e₁ e₂ hs hr
  unfold slotPts
  iintro ⟨#Hr, Hsrc, ⟨%fd, Hdst⟩, Hts, Htr, HO⟩ Hk
  iapply (wp_send_pointsTo 𝒱₀ ER (sched cm) (c : Thread nD τ) none (c' := (rot j c : Thread nD τ)) (κ₁ := K (c, some (false, k, j)))
    (κ₂ := K (rot j c, some (true, k, rev j))) (r₁ := 0) (r₂ := 0) (d₁ := 0) (d₂ := 0) (src := slotM k c) (dst := slotM k c)
    (fs := fs) (fd := fd) (q := shr j)
    (by rw [duties_dma]; exact Finset.mem_singleton_self _) (by rw [duties_dma]; exact Finset.mem_singleton_self _)
    true true N rfl rfl rfl (owed c l) rfl
    (by rw [payload_send]; unfold sendPay slotPts; iintro H; iexists fs; iexact H)
    (by
      rw [payload_recv]; unfold recvPay slotPts; iintro H; iexists _
      isplitr; · ipureintro; exact (slotRead_copy k c fd fs).trans hfs
      iexact H)) $$ [Hsrc Hdst Hts Htr HO]
  · isplitr; · iapply (inv_at cm K c (some (false, k, j))); iexact Hr
    isplitr; · iapply (inv_peer cm K c k j); iexact Hr
    isplitl [Hsrc]; · iexact Hsrc
    isplitl [Hdst]; · iexact Hdst
    isplitl [HO]; · iexact HO
    isplitl [Hts]; · iexact Hts
    isplitr; · iapply (reached_at cm K c (some (false, k, j))); iexact Hr
    isplitl [Htr]; · iexact Htr
    iapply (reached_peer cm K c k j); iexact Hr
  iexact Hk

/-- Waiting for layer `k`'s arrival from peer `j`: the slot comes with it, holding that peer's partial sum. -/
theorem step_recv (k j : Fin 3) (hl : ∀ a ∈ l, 2 + k.val < lvOf a) {q : DmaSem sig} (hq : q = recvSem k (rot j c))
    {src : Memref sig .tc .vmem S64x512 .bf16} {o : Fin 5 → ℕ} {h : ∀ a, o a + S1x1x1x64x512.size a ≤ S3x4x1x64x512.size a}
    {h₁ : src.view.WordExact} {h₂ : (slotAt o h).view.WordExact}
    {α : Type} {Q : α → sProp 𝕄} {kk : PUnit → Prog (TpuEff nD τ sig (Elt F) Λ₀ .tc) α} :
    iprop(recs cm K ∗ levAts L lv ∗ cred (tallyAt (recvCell c k (rot j c)) true N) ∗ owes (c : Thread nD τ) (owed c l) W
        ∗ atPos ER (recvCell c k (rot j c)) 0 ∅ 0)
      ⊢ iprop(((owes (c : Thread nD τ) (owed c l) (insert (SemLoc.dma (recvSem k (rot j c)), true) W) ∗ semVal (recvCell c k (rot j c)) 0
            ∗ (∃ f, ⌜slotRead k (rot j c) f = cm k (rot j c)⌝ ∗ slotPts c k (rot j c) fullShare f)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src (slotAt o h) h₁ h₂) kk) Q) := by
  subst hq
  iintro ⟨#Hr, #Hlev, Hc, HO, Hat⟩ Hk
  ihave #HI := (inv_at cm K c (some (true, k, j))) $$ Hr
  iapply (wp_wait_rest_token 𝒱₀ ER (sched cm) (c : Thread nD τ) none (κ := K (c, some (true, k, j)))
      (wpE_waitDma2_eq 𝒱₀ (c : Thread nD τ) none Set.univ) (Set.mem_univ _) true (O := owed c l) (W := W) (R := 0) (m := 0) (T := ∅)
      (by rw [Nat.zero_add, expect_dma])) $$ [Hc HO Hat]
  · isplitr; · iexact HI
    isplitl [Hc]; · iexact Hc
    isplitl [HO]; · iexact HO
    isplitr
    · iapply (mayWait_owed c (.dma (recvSem k (rot j c))) true l fun a ha => ?_)
      · have hk : ∀ (k : Fin 3) (s : Dev nD), ¬ (recvSem k s).val < 18 ∧ ((recvSem k s).val - 18) / 4 = k.val := by decide
        dsimp only [lv]; rw [if_neg (by decide), if_neg (hk _ _).1, (hk _ _).2]; exact hl a ha
      iexact Hlev
    iexact Hat
  iintro ⟨HO, Hat, -, Hp⟩
  ihave Hp := (Entails.of_eq (rest_recv cm c k (rot j c))) $$ Hp
  imod (cell_close ER (sched cm) (Set.mem_univ (K (c, some (true, k, j)))) (fun h => h) (R := 0 + 1) (duties_later cm (recvCell c k (rot j c)))) $$ [Hat] with Hz
  · isplitr; · iexact HI
    iexact Hat
  iapply Hk
  isplitl [HO]; · iexact HO
  isplitl [Hz]; · iexact Hz
  iexact Hp

/-- Waiting for the departure of layer `k`'s copy to peer `j`: the lent share of the slot comes back. -/
theorem step_sendwait (k j : Fin 3) {q : DmaSem sig} (hq : q = sendSem k j)
    {src : Memref sig .tc .vmem S64x512 .bf16} {o : Fin 5 → ℕ} {h : ∀ a, o a + S1x1x1x64x512.size a ≤ S3x4x1x64x512.size a}
    {h₁ : src.view.WordExact} {h₂ : (slotAt o h).view.WordExact}
    {α : Type} {Q : α → sProp 𝕄} {kk : PUnit → Prog (TpuEff nD τ sig (Elt F) Λ₀ .tc) α} :
    iprop(recs cm K ∗ levAts L lv ∗ cred (tallyAt (sendCell c k j) true N) ∗ owes (c : Thread nD τ) (owed c l) W
        ∗ atPos ER (sendCell c k j) 0 ∅ 0)
      ⊢ iprop(((owes (c : Thread nD τ) (owed c l) (insert (SemLoc.dma (sendSem k j), true) W) ∗ semVal (sendCell c k j) 0
            ∗ sendPay c k j) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src (slotAt o h) h₁ h₂) kk) Q) := by
  subst hq
  iintro ⟨#Hr, #Hlev, Hc, HO, Hat⟩ Hk
  ihave #HI := (inv_at cm K c (some (false, k, j))) $$ Hr
  iapply (wp_wait_rest_token 𝒱₀ ER (sched cm) (c : Thread nD τ) none (κ := K (c, some (false, k, j)))
      (wpE_waitDma2_eq 𝒱₀ (c : Thread nD τ) none Set.univ) (Set.mem_univ _) true (O := owed c l) (W := W) (R := 0) (m := 0) (T := ∅)
      (by rw [Nat.zero_add, expect_dma])) $$ [Hc HO Hat]
  · isplitr; · iexact HI
    isplitl [Hc]; · iexact Hc
    isplitl [HO]; · iexact HO
    isplitr
    · iapply (mayWait_owed c (.dma (sendSem k j)) true l fun a ha => ?_)
      · have hk : ∀ k j : Fin 3, (sendSem k j).val < 18 := by decide
        dsimp only [lv]; rw [if_neg (by decide), if_pos (hk _ _)]; exact lvOf_pos a
      iexact Hlev
    iexact Hat
  iintro ⟨HO, Hat, -, Hp⟩
  ihave Hp := (Entails.of_eq (rest_send cm c k j)) $$ Hp
  imod (cell_close ER (sched cm) (Set.mem_univ (K (c, some (false, k, j)))) (fun h => h) (R := 0 + 1) (duties_later cm (sendCell c k j))) $$ [Hat] with Hz
  · isplitr; · iexact HI
    iexact Hat
  iapply Hk
  isplitl [HO]; · iexact HO
  isplitl [Hz]; · iexact Hz
  iexact Hp

/-! ## Lending a slot -/

/-- A share is made of its two halves. -/
theorem share_halves (q : PosShare TreeShare) : q ∈ PCS.op q.left q.right := by
  rw [PosShare.left_op_right]; exact Part.mem_some q

/-- A slot lent out in three shares. -/
theorem slot_lend (k : Fin 3) (s : Dev nD) (f : CBuf (F := F) c) :
    slotPts c k s fullShare f ⊢ iprop(slotPts c k s (shr 0) f ∗ slotPts c k s (shr 1) f ∗ slotPts c k s (shr 2) f) := by
  unfold slotPts
  exact (pointsTo_share (share_halves fullShare)).1.trans (sep_mono_right (pointsTo_share (share_halves fullShare.right)).1)

/-- Two shares of a slot joined, whatever each is known to hold. -/
theorem slot_join {c : Dev nD} (k : Fin 3) (s : Dev nD) {q q₁ q₂ : PosShare TreeShare} (h : q ∈ PCS.op q₁ q₂) (f g : CBuf (F := F) c) :
    iprop(slotPts c k s q₁ f ∗ slotPts c k s q₂ g) ⊢ slotPts c k s q f := by
  unfold slotPts
  iintro ⟨Hf, Hg⟩
  ihave H := (persistent_entails_right pointsTo_agree) $$ [Hf Hg]
  · isplitl [Hf] <;> iassumption
  icases H with ⟨%he, Hf, Hg⟩
  ihave Hg := (Entails.of_eq (pointsTo_congr fun i hi => (he i (Finset.mem_inter.mpr ⟨hi, hi⟩)).1.symm)) $$ Hg
  iapply (pointsTo_share h).2
  isplitl [Hf] <;> iassumption

/-- The three shares back: the slot whole. -/
theorem slot_regain (k : Fin 3) :
    iprop(sendPay (F := F) c k 0 ∗ sendPay c k 1 ∗ sendPay c k 2) ⊢ iprop(∃ f, slotPts c k c fullShare f) := by
  unfold sendPay
  iintro ⟨⟨%f, H0⟩, ⟨%g, H1⟩, ⟨%h, H2⟩⟩
  iexists f
  iapply (slot_join k c (share_halves fullShare) f g)
  isplitl [H0]; · iexact H0
  iapply (slot_join k c (share_halves fullShare.right) g h)
  isplitl [H1]
  · iexact H1
  · iexact H2

end Cert.MlpProof
-- ==== Proof.Addr.lean ====
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic
public import proofs.«01_k».proof.Proof.Steps

@[expose] public section

noncomputable section

namespace Cert.MlpProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Where the kernel's address words point -/

theorem dev1_eq (c : Dev nD) : (⟨k0_dev1 c, k0_dev1_lt c⟩ : Dev nD) = rot 0 c := by revert c; decide +kernel
theorem dev2_eq (c : Dev nD) : (⟨k0_dev2 c, k0_dev2_lt c⟩ : Dev nD) = rot 1 c := by revert c; decide +kernel
theorem dev3_eq (c : Dev nD) : (⟨k0_dev3 c, k0_dev3_lt c⟩ : Dev nD) = rot 2 c := by revert c; decide +kernel
theorem dev4_eq (c : Dev nD) : (⟨k0_dev4 c, k0_dev4_lt c⟩ : Dev nD) = rot 1 c := by revert c; decide +kernel
theorem dev5_eq (c : Dev nD) : (⟨k0_dev5 c, k0_dev5_lt c⟩ : Dev nD) = rot 0 c := by revert c; decide +kernel
theorem dev6_eq (c : Dev nD) : (⟨k0_dev6 c, k0_dev6_lt c⟩ : Dev nD) = rot 2 c := by revert c; decide +kernel
theorem dev7_eq (c : Dev nD) : (⟨k0_dev7 c, k0_dev7_lt c⟩ : Dev nD) = rot 1 c := by revert c; decide +kernel
theorem dev8_eq (c : Dev nD) : (⟨k0_dev8 c, k0_dev8_lt c⟩ : Dev nD) = rot 0 c := by revert c; decide +kernel
theorem dev9_eq (c : Dev nD) : (⟨k0_dev9 c, k0_dev9_lt c⟩ : Dev nD) = rot 2 c := by revert c; decide +kernel
theorem dev10_eq (c : Dev nD) : (⟨k0_dev10 c, k0_dev10_lt c⟩ : Dev nD) = rot 1 c := by revert c; decide +kernel
theorem dev11_eq (c : Dev nD) : (⟨k0_dev11 c, k0_dev11_lt c⟩ : Dev nD) = rot 0 c := by revert c; decide +kernel
theorem dev12_eq (c : Dev nD) : (⟨k0_dev12 c, k0_dev12_lt c⟩ : Dev nD) = rot 2 c := by revert c; decide +kernel
theorem off6_at1 (c : Dev nD) : k0_off6 c 1#32 = ![0, (rot 0 c).val, 0, 0, 0] := by revert c; decide +kernel
theorem off6_at2 (c : Dev nD) : k0_off6 c 2#32 = ![0, (rot 1 c).val, 0, 0, 0] := by revert c; decide +kernel
theorem off6_at3 (c : Dev nD) : k0_off6 c 3#32 = ![0, (rot 2 c).val, 0, 0, 0] := by revert c; decide +kernel
theorem off12_at1 (c : Dev nD) : k0_off12 c 1#32 = ![1, (rot 0 c).val, 0, 0, 0] := by revert c; decide +kernel
theorem off12_at2 (c : Dev nD) : k0_off12 c 2#32 = ![1, (rot 1 c).val, 0, 0, 0] := by revert c; decide +kernel
theorem off12_at3 (c : Dev nD) : k0_off12 c 3#32 = ![1, (rot 2 c).val, 0, 0, 0] := by revert c; decide +kernel
theorem off18_at1 (c : Dev nD) : k0_off18 c 1#32 = ![2, (rot 0 c).val, 0, 0, 0] := by revert c; decide +kernel
theorem off18_at2 (c : Dev nD) : k0_off18 c 2#32 = ![2, (rot 1 c).val, 0, 0, 0] := by revert c; decide +kernel
theorem off18_at3 (c : Dev nD) : k0_off18 c 3#32 = ![2, (rot 2 c).val, 0, 0, 0] := by revert c; decide +kernel
theorem off4_at1 (c : Dev nD) : k0_off4 c 1#32 = ![0, (rot 0 c).val, 0] := by revert c; decide +kernel
theorem off4_at2 (c : Dev nD) : k0_off4 c 2#32 = ![0, (rot 1 c).val, 0] := by revert c; decide +kernel
theorem off4_at3 (c : Dev nD) : k0_off4 c 3#32 = ![0, (rot 2 c).val, 0] := by revert c; decide +kernel
theorem off10_at1 (c : Dev nD) : k0_off10 c 1#32 = ![1, (rot 0 c).val, 0] := by revert c; decide +kernel
theorem off10_at2 (c : Dev nD) : k0_off10 c 2#32 = ![1, (rot 1 c).val, 0] := by revert c; decide +kernel
theorem off10_at3 (c : Dev nD) : k0_off10 c 3#32 = ![1, (rot 2 c).val, 0] := by revert c; decide +kernel
theorem off16_at1 (c : Dev nD) : k0_off16 c 1#32 = ![2, (rot 0 c).val, 0] := by revert c; decide +kernel
theorem off16_at2 (c : Dev nD) : k0_off16 c 2#32 = ![2, (rot 1 c).val, 0] := by revert c; decide +kernel
theorem off16_at3 (c : Dev nD) : k0_off16 c 3#32 = ![2, (rot 2 c).val, 0] := by revert c; decide +kernel

/-- The arrival semaphore at offsets `[k, s]`. -/
theorem recv_sem (k : Fin 3) (s : Dev nD) {o : Fin 3 → ℕ} {h : ∀ a, o a + S1x1x1.size a ≤ S3x4x1.size a} (e : o = ![k.val, s.val, 0]) :
    ((cc0_scratch9.slice (Rect.unit (s := S3x4x1) o S1x1x1.size h)).squeeze S_ squeezes_S1x1x1_S_).sem = recvSem k s := by
  subst e; revert k s; decide
/-- The departure semaphore at offsets `[k, j]`. -/
theorem send_sem (k j : Fin 3) (o : Fin 3 → ℕ) {h : ∀ a, o a + S1x1x1.size a ≤ S3x3x1.size a} (e : o = ![k.val, j.val, 0]) :
    ((cc0_scratch8.slice (Rect.unit (s := S3x3x1) o S1x1x1.size h)).squeeze S_ squeezes_S1x1x1_S_).sem = sendSem k j := by
  subst e; revert k j; decide

end Cert.MlpProof
-- ==== Proof.Values.lean ====
/-
  What the kernel computes, in terms of what the arguments hold: each layer's partial sum on a device, the sum of the
  four of a layer, and that the loads from the scratch buffers give back what the copies put there.
-/
module

public import proofs.«01_k».proof.Proof.Steps

@[expose] public section

noncomputable section

namespace Cert.MlpProof

open Cert.KernelIdeal Cert.KernelIdeal.Gen

open Idealize.ShloMosaic
open Idealize.ShloMosaic.TcCoe Idealize.ShloMosaic.Tactic

variable {F : FTy → Type} [FloatOps F]

/-! ## Loads of what was copied -/

/-- A load of one rectangle does not see a write into another one, separated from it on an axis. -/
theorem load_past {κ : Kind} {sp : Space} {s t : Shape} {e : EltTy} (m : Memref sig κ sp s e) {r r' : Rect s} {hr' : ∀ a, r'.stride a = 1}
    {hq : r'.shape.Squeezes t} (a : Fin s.rank) (h₁ : r.stride a = 1)
    (hsep : r.off a + r.size a ≤ r'.off a ∨ r'.off a + r'.size a ≤ r.off a)
    (f : m.view.ty.Contents (Elt F)) (d : t.Idx → Elt F e) :
    m.view.readAt (Elt F) r.toLoadRect (View.write (Elt F) ((m.slice r' hr').squeeze t hq).view f d Finset.univ)
      = m.view.readAt (Elt F) r.toLoadRect f :=
  View.read_congr (v := m.view.slice r) fun _ hi => View.write_of_not_mem _ _ _ fun hm => by
    rw [View.setOn_univ] at hm
    exact Finset.disjoint_left.mp (View.disjoint_slice_of_sep m.view r r' a h₁ (hr' a) hsep) hi ((View.set_reshape (m.view.slice r') hq.numel_eq) ▸ hm)

/-- A load of the rectangle written last gives what was written, shaped as it was. -/
theorem load_back {κ : Kind} {sp : Space} {s t : Shape} {e : EltTy} (m : Memref sig κ sp s e) {r : Rect s} {hr : ∀ a, r.stride a = 1}
    {hq : r.shape.Squeezes t} (h : r.shape.ShapeCasts t) (f : m.view.ty.Contents (Elt F)) (d : t.Idx → Elt F e) :
    shapeCast t (m.view.readAt (Elt F) r.toLoadRect (View.write (Elt F) ((m.slice r hr).squeeze t hq).view f d Finset.univ)) h = d :=
  View.read_write_univ (v := (m.view.slice r).reshape t hq.numel_eq) f d

/-- A load of the whole buffer of activations gives what was copied there. -/
theorem x_back (s : (cc0_scratch0 : Ref sig .tc).ty.Contents (Elt F)) (d : S64x512.Idx → Elt F .f32) :
    (Memref.whole cc0_scratch0).view.readAt (Elt F) (Rect.unit (s := S64x512) ![0, 0] S64x512.size inb_S64x512_S64x512_0_0).toLoadRect
      (View.write (Elt F) (Memref.whole cc0_scratch0).view s d Finset.univ) = d :=
  (Memref.readAt_unit_zero (Elt F) cc0_scratch0 (by decide) _ _).trans (View.write_whole_univ cc0_scratch0 s d)

/-- The result's staging buffer, written whole and copied whole, leaves the result holding what was written. -/
theorem out_back (s : (cc0_scratch4 : Ref sig .tc).ty.Contents (Elt F)) (r : (main_v1 : Ref sig .tc).ty.Contents (Elt F))
    (d : S64x512.Idx → Elt F .bf16) :
    (Memref.whole main_v1).view.writes (Elt F) r [⟨Rect.unit (s := S64x512) ![0, 0] S64x512.size inb_S64x512_S64x512_0_0,
      ((Memref.whole cc0_scratch4).slice (Rect.unit (s := S64x512) ![0, 0] S64x512.size inb_S64x512_S64x512_0_0) (fun _ => rfl)).view.read (Elt F)
        ((Memref.whole cc0_scratch4).view.writes (Elt F) s [⟨Rect.unit (s := S64x512) ![0, 0] S64x512.size inb_S64x512_S64x512_0_0, d⟩])⟩] = d :=
  (Memref.write_access_unit_zero_univ (Elt F) main_v1 (by decide) inb_S64x512_S64x512_0_0 r _).trans
    (View.read_write_univ (v := (Memref.whole cc0_scratch4).view.slice (Rect.unit (s := S64x512) ![0, 0] S64x512.size inb_S64x512_S64x512_0_0)) s d)

/-- The buffer of the first weights, after its four copies. -/
abbrev winBuf (s : (cc0_scratch1 : Ref sig .tc).ty.Contents (Elt F)) (a b : S512x512.Idx → Elt F .f32) (w₁ w₂ : S512x1024.Idx → Elt F .f32) :
    (cc0_scratch1 : Ref sig .tc).ty.Contents (Elt F) :=
  View.write (Elt F) (((Memref.whole cc0_scratch1).slice (Rect.unit (s := S3x512x1024) ![2, 0, 0] S1x512x1024.size inb_S3x512x1024_S1x512x1024_2_0_0)
      (fun _ => rfl)).squeeze S512x1024 squeezes_S1x512x1024_S512x1024).view
    (View.write (Elt F) (((Memref.whole cc0_scratch1).slice (Rect.unit (s := S3x512x1024) ![1, 0, 0] S1x512x1024.size inb_S3x512x1024_S1x512x1024_1_0_0)
        (fun _ => rfl)).squeeze S512x1024 squeezes_S1x512x1024_S512x1024).view
      (View.write (Elt F) (((Memref.whole cc0_scratch1).slice (Rect.unit (s := S3x512x1024) ![0, 0, 512] S1x512x512.size inb_S3x512x1024_S1x512x512_0_0_512)
          (fun _ => rfl)).squeeze S512x512 squeezes_S1x512x512_S512x512).view
        (View.write (Elt F) (((Memref.whole cc0_scratch1).slice (Rect.unit (s := S3x512x1024) ![0, 0, 0] S1x512x512.size inb_S3x512x1024_S1x512x512_0_0_0)
            (fun _ => rfl)).squeeze S512x512 squeezes_S1x512x512_S512x512).view s a Finset.univ) b Finset.univ) w₁ Finset.univ) w₂ Finset.univ

/-- The buffer of the second weights, after its three copies. -/
abbrev woutBuf (s : (cc0_scratch2 : Ref sig .tc).ty.Contents (Elt F)) (o₀ o₁ o₂ : S1024x512.Idx → Elt F .f32) :
    (cc0_scratch2 : Ref sig .tc).ty.Contents (Elt F) :=
  View.write (Elt F) (((Memref.whole cc0_scratch2).slice (Rect.unit (s := S3x1024x512) ![2, 0, 0] S1x1024x512.size inb_S3x1024x512_S1x1024x512_2_0_0)
      (fun _ => rfl)).squeeze S1024x512 squeezes_S1x1024x512_S1024x512).view
    (View.write (Elt F) (((Memref.whole cc0_scratch2).slice (Rect.unit (s := S3x1024x512) ![1, 0, 0] S1x1024x512.size inb_S3x1024x512_S1x1024x512_1_0_0)
        (fun _ => rfl)).squeeze S1024x512 squeezes_S1x1024x512_S1024x512).view
      (View.write (Elt F) (((Memref.whole cc0_scratch2).slice (Rect.unit (s := S3x1024x512) ![0, 0, 0] S1x1024x512.size inb_S3x1024x512_S1x1024x512_0_0_0)
          (fun _ => rfl)).squeeze S1024x512 squeezes_S1x1024x512_S1024x512).view s o₀ Finset.univ) o₁ Finset.univ) o₂ Finset.univ

section
variable (s : (cc0_scratch1 : Ref sig .tc).ty.Contents (Elt F)) (a b : S512x512.Idx → Elt F .f32) (w₁ w₂ : S512x1024.Idx → Elt F .f32)

/-- The first half of layer 0's first weights. -/
theorem win_a : shapeCast S512x512 ((Memref.whole cc0_scratch1).view.readAt (Elt F)
    (Rect.unit (s := S3x512x1024) ![0, 0, 0] S1x512x512.size inb_S3x512x1024_S1x512x512_0_0_0).toLoadRect (winBuf s a b w₁ w₂)) shapeCasts_S1x512x512_S512x512 = a := by
  rw [load_past (s := S3x512x1024) (Memref.whole cc0_scratch1) 0 rfl (by decide)]
  rw [load_past (s := S3x512x1024) (Memref.whole cc0_scratch1) 0 rfl (by decide)]
  rw [load_past (s := S3x512x1024) (Memref.whole cc0_scratch1) 2 rfl (by decide)]
  exact load_back (s := S3x512x1024) (Memref.whole cc0_scratch1) _ _ _

/-- The second half of layer 0's first weights. -/
theorem win_b : shapeCast S512x512 ((Memref.whole cc0_scratch1).view.readAt (Elt F)
    (Rect.unit (s := S3x512x1024) ![0, 0, 512] S1x512x512.size inb_S3x512x1024_S1x512x512_0_0_512).toLoadRect (winBuf s a b w₁ w₂)) shapeCasts_S1x512x512_S512x512 = b := by
  rw [load_past (s := S3x512x1024) (Memref.whole cc0_scratch1) 0 rfl (by decide)]
  rw [load_past (s := S3x512x1024) (Memref.whole cc0_scratch1) 0 rfl (by decide)]
  exact load_back (s := S3x512x1024) (Memref.whole cc0_scratch1) _ _ _

/-- Layer 1's first weights. -/
theorem win_1 : shapeCast S512x1024 ((Memref.whole cc0_scratch1).view.readAt (Elt F)
    (Rect.unit (s := S3x512x1024) ![1, 0, 0] S1x512x1024.size inb_S3x512x1024_S1x512x1024_1_0_0).toLoadRect (winBuf s a b w₁ w₂)) shapeCasts_S1x512x1024_S512x1024 = w₁ := by
  rw [load_past (s := S3x512x1024) (Memref.whole cc0_scratch1) 0 rfl (by decide)]
  exact load_back (s := S3x512x1024) (Memref.whole cc0_scratch1) _ _ _

/-- Layer 2's first weights. -/
theorem win_2 : shapeCast S512x1024 ((Memref.whole cc0_scratch1).view.readAt (Elt F)
    (Rect.unit (s := S3x512x1024) ![2, 0, 0] S1x512x1024.size inb_S3x512x1024_S1x512x1024_2_0_0).toLoadRect (winBuf s a b w₁ w₂)) shapeCasts_S1x512x1024_S512x1024 = w₂ := by
  exact load_back (s := S3x512x1024) (Memref.whole cc0_scratch1) _ _ _
end

section
variable (s : (cc0_scratch2 : Ref sig .tc).ty.Contents (Elt F)) (o₀ o₁ o₂ : S1024x512.Idx → Elt F .f32)

/-- Layer 0's second weights. -/
theorem wout_0 : shapeCast S1024x512 ((Memref.whole cc0_scratch2).view.readAt (Elt F)
    (Rect.unit (s := S3x1024x512) ![0, 0, 0] S1x1024x512.size inb_S3x1024x512_S1x1024x512_0_0_0).toLoadRect (woutBuf s o₀ o₁ o₂)) shapeCasts_S1x1024x512_S1024x512 = o₀ := by
  rw [load_past (s := S3x1024x512) (Memref.whole cc0_scratch2) 0 rfl (by decide)]
  rw [load_past (s := S3x1024x512) (Memref.whole cc0_scratch2) 0 rfl (by decide)]
  exact load_back (s := S3x1024x512) (Memref.whole cc0_scratch2) _ _ _

/-- Layer 1's second weights. -/
theorem wout_1 : shapeCast S1024x512 ((Memref.whole cc0_scratch2).view.readAt (Elt F)
    (Rect.unit (s := S3x1024x512) ![1, 0, 0] S1x1024x512.size inb_S3x1024x512_S1x1024x512_1_0_0).toLoadRect (woutBuf s o₀ o₁ o₂)) shapeCasts_S1x1024x512_S1024x512 = o₁ := by
  rw [load_past (s := S3x1024x512) (Memref.whole cc0_scratch2) 0 rfl (by decide)]
  exact load_back (s := S3x1024x512) (Memref.whole cc0_scratch2) _ _ _

/-- Layer 2's second weights. -/
theorem wout_2 : shapeCast S1024x512 ((Memref.whole cc0_scratch2).view.readAt (Elt F)
    (Rect.unit (s := S3x1024x512) ![2, 0, 0] S1x1024x512.size inb_S3x1024x512_S1x1024x512_2_0_0).toLoadRect (woutBuf s o₀ o₁ o₂)) shapeCasts_S1x1024x512_S1024x512 = o₂ := by
  exact load_back (s := S3x1024x512) (Memref.whole cc0_scratch2) _ _ _
end

/-! ## What the arguments' copies carry -/

/-- The activations. -/
abbrev xOf (x : (main_arg0 : Ref sig .tc).ty.Contents (Elt F)) : FVec F S64x512 .f32 := (Memref.whole main_arg0).view.read (Elt F) x
/-- The first 512 columns of layer 0's first weights. -/
abbrev aOf (w : (main_arg1 : Ref sig .tc).ty.Contents (Elt F)) : FVec F S512x512 .f32 :=
  ((Memref.whole main_arg1).slice (Rect.unit (s := S512x1024) ![0, 0] S512x512.size inb_S512x1024_S512x512_0_0) (fun _ => rfl)).view.read (Elt F) w
/-- The last 512 columns of layer 0's first weights. -/
abbrev bOf (w : (main_arg1 : Ref sig .tc).ty.Contents (Elt F)) : FVec F S512x512 .f32 :=
  ((Memref.whole main_arg1).slice (Rect.unit (s := S512x1024) ![0, 512] S512x512.size inb_S512x1024_S512x512_0_512) (fun _ => rfl)).view.read (Elt F) w

/-! ## The layers -/

/-- A layer's hidden activations times its second weights. -/
def hidden (h : FVec F S64x1024 .f32) (o : FVec F S1024x512 .f32) : FVec F S64x512 .f32 :=
  matmul dot_S64x1024_S1024x512_S64x512_1_0_0_1_n_n none
    (truncf .bf16 (maximumf h (broadcast S64x1024 (Scalar.ofBits .f32 0x00000000#32))) bitsLt_bf16_f32)
    (truncf .bf16 o bitsLt_bf16_f32) (constant S64x512 .f32 0x00000000#32)

/-- The product of activations with half of a device's columns. -/
def half (x : FVec F S64x512 .f32) (a : FVec F S512x512 .f32) : FVec F S64x512 .f32 :=
  matmul dot_S64x512_S512x512_S64x512_1_0_0_1_n_n none (truncf .bf16 x bitsLt_bf16_f32) (truncf .bf16 a bitsLt_bf16_f32)
    (constant S64x512 .f32 0x00000000#32)

/-- Layer 0's partial sum, the first product taken in two halves. -/
def partA (x : FVec F S64x512 .f32) (a b : FVec F S512x512 .f32) (o : FVec F S1024x512 .f32) : FVec F S64x512 .f32 :=
  hidden (concatenate S64x1024 1 [⟨S64x512, half x a⟩, ⟨S64x512, half x b⟩] concatenates_S64x512_S64x512_S64x1024_d1) o

/-- A later layer's partial sum. -/
def partB (y : FVec F S64x512 .f32) (w : FVec F S512x1024 .f32) (o : FVec F S1024x512 .f32) : FVec F S64x512 .f32 :=
  hidden (matmul dot_S64x512_S512x1024_S64x1024_1_0_0_1_n_n none (truncf .bf16 y bitsLt_bf16_f32) (truncf .bf16 w bitsLt_bf16_f32)
    (constant S64x1024 .f32 0x00000000#32)) o

/-- A partial sum as a slot holds it. -/
def enc (p : FVec F S64x512 .f32) : Vec F S1x1x1x64x512 .bf16 :=
  shapeCast S1x1x1x64x512 (truncf .bf16 p bitsLt_bf16_f32) shapeCasts_S64x512_S1x1x1x64x512

/-- A slot's partial sum, widened. -/
def dec (q : Vec F S1x1x1x64x512 .bf16) : FVec F S64x512 .f32 :=
  extf .f32 (shapeCast S64x512 q shapeCasts_S1x1x1x64x512_S64x512 : FVec F S64x512 .bf16) bitsLt_bf16_f32

/-- A layer's sum on a device: its own partial sum, then the peers' in the order they are awaited. -/
def comb (cm : Fin 3 → Dev nD → Vec F S1x1x1x64x512 .bf16) (k : Fin 3) (c : Dev nD) (p : FVec F S64x512 .f32) : FVec F S64x512 .f32 :=
  addf (addf (addf p (dec (cm k (rot 0 c)))) (dec (cm k (rot 2 c)))) (dec (cm k (rot 1 c)))

section
variable {v77 x : Vec F S64x512 .f32} {v84 v93 : Vec F S1x512x512 .f32} {v102 v188 v348 : Vec F S1x1024x512 .f32}
  {v181 v341 : Vec F S1x512x1024 .f32} {a b : FVec F S512x512 .f32} {w₁ w₂ : FVec F S512x1024 .f32} {o₀ o₁ o₂ : FVec F S1024x512 .f32}

/-- Layer 0's partial sum from the loaded values. -/
theorem partA_eq (hx : v77 = x) (ha : shapeCast S512x512 v84 shapeCasts_S1x512x512_S512x512 = a)
    (hb : shapeCast S512x512 v93 shapeCasts_S1x512x512_S512x512 = b)
    (ho : shapeCast S1024x512 v102 shapeCasts_S1x1024x512_S1024x512 = o₀) :
    k0_pay3 (k0_pay1 v77) (k0_pay2 v84) v93 v102 = partA x a b o₀ := by
  subst hx ha hb ho; rfl

/-- Layer 1's partial sum from the loaded values. -/
theorem partB_eq1 {p : FVec F S64x512 .f32} {q₀ q₂ q₁ : Vec F S1x1x1x64x512 .bf16}
    (hw : shapeCast S512x1024 v181 shapeCasts_S1x512x1024_S512x1024 = w₁)
    (ho : shapeCast S1024x512 v188 shapeCasts_S1x1024x512_S1024x512 = o₁) :
    k0_pay9 (k0_pay5 v181) (k0_pay6 v188) (k0_pay8 (k0_pay7 p q₀) q₂) q₁
      = partB (addf (addf (addf p (dec q₀)) (dec q₂)) (dec q₁)) w₁ o₁ := by
  subst hw ho; rfl

/-- Layer 2's partial sum from the loaded values. -/
theorem partB_eq2 {p : FVec F S64x512 .f32} {q₀ q₂ q₁ : Vec F S1x1x1x64x512 .bf16}
    (hw : shapeCast S512x1024 v341 shapeCasts_S1x512x1024_S512x1024 = w₂)
    (ho : shapeCast S1024x512 v348 shapeCasts_S1x1024x512_S1024x512 = o₂) :
    k0_pay15 (k0_pay11 v341) (k0_pay12 v348) (k0_pay14 p (k0_pay13 q₀) q₂) q₁
      = partB (addf (addf (addf p (dec q₀)) (dec q₂)) (dec q₁)) w₂ o₂ := by
  subst hw ho; rfl

/-- The result from the last sum. -/
theorem out_eq {p : FVec F S64x512 .f32} {q₀ q₂ q₁ : Vec F S1x1x1x64x512 .bf16} :
    k0_pay19 (k0_pay18 p q₀ q₂) q₁ = truncf .bf16 (addf (addf (addf p (dec q₀)) (dec q₂)) (dec q₁)) bitsLt_bf16_f32 := by
  show shapeCast S64x512 _ _ = _
  rw [shapeCast_self]; rfl
end

section
variable (cm : Fin 3 → Dev nD → Vec F S1x1x1x64x512 .bf16) (c : Dev nD)
  (x : (main_arg0 : Ref sig .tc).ty.Contents (Elt F))
  (w0 : (main_arg1 : Ref sig .tc).ty.Contents (Elt F)) (o0 : (main_arg2 : Ref sig .tc).ty.Contents (Elt F))
  (w1 : (main_arg3 : Ref sig .tc).ty.Contents (Elt F)) (o1 : (main_arg4 : Ref sig .tc).ty.Contents (Elt F))
  (w2 : (main_arg5 : Ref sig .tc).ty.Contents (Elt F)) (o2 : (main_arg6 : Ref sig .tc).ty.Contents (Elt F))

/-- Layer 0's partial sum on a device, from what its arguments hold. -/
def p0 : FVec F S64x512 .f32 := partA (xOf x) (aOf w0) (bOf w0) ((Memref.whole main_arg2).view.read (Elt F) o0)
/-- Layer 1's, given what the peers sent in layer 0. -/
def p1 : FVec F S64x512 .f32 :=
  partB (comb cm 0 c (p0 x w0 o0)) ((Memref.whole main_arg3).view.read (Elt F) w1) ((Memref.whole main_arg4).view.read (Elt F) o1)
/-- Layer 2's, given what the peers sent in layers 0 and 1. -/
def p2 : FVec F S64x512 .f32 :=
  partB (comb cm 1 c (p1 cm c x w0 o0 w1 o1)) ((Memref.whole main_arg5).view.read (Elt F) w2) ((Memref.whole main_arg6).view.read (Elt F) o2)
/-- The result, given what the peers sent. -/
def out : FVec F S64x512 .bf16 := truncf .bf16 (comb cm 2 c (p2 cm c x w0 o0 w1 o1 w2 o2)) bitsLt_bf16_f32
end

end Cert.MlpProof
-- ==== Proof.Body.lean ====
/-
  One device's run of the kernel: the local copies, loads, products and stores by execution, each step of the exchange
  by its rule, and what the device holds when it is through.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic
public import proofs.«01_k».proof.Proof.Addr
public import proofs.«01_k».proof.Proof.Values

@[expose] public section

noncomputable section

namespace Cert.MlpProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

/-- A buffer's contents as device `c` holds it through the whole memref `M`. -/
abbrev BufAt (F : FTy → Type) [FloatOps F] (c : Dev nD) {sp : Space} {S : Shape} {e : EltTy} (M : Memref sig .tc sp S e) : Type :=
  Buf (Elt F) (M.view.loc (c : Thread nD τ))
/-- Device `c` holds a buffer whole. -/
abbrev own (c : Dev nD) {sp : Space} {S : Shape} {e : EltTy} (M : Memref sig .tc sp S e) (f : BufAt F c M) : sProp 𝕄 :=
  M.view.loc (c : Thread nD τ) ↦{fullShare} f
/-- Over the three layers, or the three peers. -/
theorem sep3 (Φ : Fin 3 → sProp 𝕄) : bigSep Finset.univ Φ = iprop(Φ 0 ∗ Φ 1 ∗ Φ 2) :=
  (bigSep_eq_bigSepL_of_eq (S := Finset.univ) [0, 1, 2] (by decide) (by decide) Φ).trans rfl

variable (cm : Fin 3 → Dev nD → Vec F S1x1x1x64x512 .bf16) (K : Names) (c : Dev nD)

/-- What a device brings to the exchange: the duties it pays, the positions and the credit it waits with. -/
def exch (c : Dev nD) : sProp 𝕄 :=
  iprop((bigSep Finset.univ fun j : Fin 3 => dutyTok ER (barCell (rot j c)) 0 j)
    ∗ (bigSep Finset.univ fun k : Fin 3 => bigSep Finset.univ fun j : Fin 3 =>
        iprop(dutyTok ER (sendCell c k j) 0 0 ∗ dutyTok ER (recvCell (rot j c) k c) 0 0))
    ∗ atPos ER (barCell c) 0 ∅ 0
    ∗ (bigSep Finset.univ fun k : Fin 3 => bigSep Finset.univ fun j : Fin 3 =>
        iprop(atPos ER (sendCell c k j) 0 ∅ 0 ∗ atPos ER (recvCell c k (rot j c)) 0 ∅ 0))
    ∗ cred (tallyAt (barCell c) true 3)
    ∗ (bigSep Finset.univ fun k : Fin 3 => bigSep Finset.univ fun j : Fin 3 => cred (tallyAt (recvCell c k (rot j c)) true N)))
/-- The twelve slots of a device: its own three, and three from each peer. -/
def slots (c : Dev nD) : sProp 𝕄 :=
  iprop((bigSep Finset.univ fun k : Fin 3 => iprop(∃ f, slotPts c k c fullShare f))
    ∗ bigSep Finset.univ fun j : Fin 3 => bigSep Finset.univ fun k : Fin 3 => iprop(∃ f, slotPts c k (rot j c) fullShare f))
/-- The counters of the exchange's cells, at zero. -/
def cellsZero (c : Dev nD) : sProp 𝕄 :=
  iprop(semVal (barCell c) 0
    ∗ bigSep Finset.univ fun k : Fin 3 => bigSep Finset.univ fun j : Fin 3 =>
        iprop(semVal (sendCell c k j) 0 ∗ semVal (recvCell c k (rot j c)) 0))
/-- The counters of the local copies' semaphores, at zero. -/
def localZero (c : Dev nD) : sProp 𝕄 :=
  iprop(semVal ((c : Thread nD τ), SemLoc.dma 0) 0 ∗ semVal ((c : Thread nD τ), SemLoc.dma 1) 0
   ∗ semVal ((c : Thread nD τ), SemLoc.dma 2) 0 ∗ semVal ((c : Thread nD τ), SemLoc.dma 3) 0
   ∗ semVal ((c : Thread nD τ), SemLoc.dma 4) 0 ∗ semVal ((c : Thread nD τ), SemLoc.dma 5) 0
   ∗ semVal ((c : Thread nD τ), SemLoc.dma 6) 0 ∗ semVal ((c : Thread nD τ), SemLoc.dma 7) 0
   ∗ semVal ((c : Thread nD τ), SemLoc.dma 8) 0)

/-- What the three peers handed over on entering, by peer. -/
theorem bar_slots : (bigSep Finset.univ fun j : Fin 3 => barPay (F := F) c j)
    ⊢ iprop(((∃ f, slotPts (F := F) (rot 0 c) 0 c fullShare f) ∗ (∃ f, slotPts (F := F) (rot 0 c) 1 c fullShare f)
          ∗ (∃ f, slotPts (F := F) (rot 0 c) 2 c fullShare f))
      ∗ ((∃ f, slotPts (F := F) (rot 1 c) 0 c fullShare f) ∗ (∃ f, slotPts (F := F) (rot 1 c) 1 c fullShare f)
          ∗ (∃ f, slotPts (F := F) (rot 1 c) 2 c fullShare f))
      ∗ ((∃ f, slotPts (F := F) (rot 2 c) 0 c fullShare f) ∗ (∃ f, slotPts (F := F) (rot 2 c) 1 c fullShare f)
          ∗ (∃ f, slotPts (F := F) (rot 2 c) 2 c fullShare f))) := by
  unfold barPay
  simp only [sep3]
  iintro ⟨H2, H1, H0⟩
  isplitl [H0]; · iexact H0
  isplitl [H1]; · iexact H1
  iexact H2

/-- A device's arguments. -/
def argsAt (x : BufAt F c (Memref.whole main_arg0))
    (w0 : BufAt F c (Memref.whole main_arg1)) (o0 : BufAt F c (Memref.whole main_arg2))
    (w1 : BufAt F c (Memref.whole main_arg3)) (o1 : BufAt F c (Memref.whole main_arg4))
    (w2 : BufAt F c (Memref.whole main_arg5)) (o2 : BufAt F c (Memref.whole main_arg6)) : sProp 𝕄 :=
  iprop(own c (Memref.whole main_arg0) x ∗ own c (Memref.whole main_arg1) w0 ∗ own c (Memref.whole main_arg2) o0
   ∗ own c (Memref.whole main_arg3) w1 ∗ own c (Memref.whole main_arg4) o1 ∗ own c (Memref.whole main_arg5) w2
   ∗ own c (Memref.whole main_arg6) o2)
/-- A device's buffers that no peer touches, holding anything. -/
def scratchAny (c : Dev nD) : sProp 𝕄 :=
  iprop((∃ f, own (F := F) c (Memref.whole cc0_scratch0) f) ∗ (∃ f, own (F := F) c (Memref.whole cc0_scratch1) f)
   ∗ (∃ f, own (F := F) c (Memref.whole cc0_scratch2) f) ∗ (∃ f, own (F := F) c (Memref.whole cc0_scratch4) f))

set_option maxHeartbeats 4000000 in
set_option sl_exec.dmaWindow true in
/-- The kernel on a device. Given that each of its own messages `cm k c` is what its arguments and the peers' earlier
    messages make it, it runs to the end: the arguments keep their contents, the result holds `out`, every slot and
    counter comes back, and nothing is owed. -/
theorem body_run (x : BufAt F c (Memref.whole main_arg0))
    (w0 : BufAt F c (Memref.whole main_arg1)) (o0 : BufAt F c (Memref.whole main_arg2))
    (w1 : BufAt F c (Memref.whole main_arg3)) (o1 : BufAt F c (Memref.whole main_arg4))
    (w2 : BufAt F c (Memref.whole main_arg5)) (o2 : BufAt F c (Memref.whole main_arg6))
    (W : Waits sig Bool) (Q : PUnit → sProp 𝕄) (h0 : cm 0 c = enc (p0 x w0 o0))
    (h1 : cm 1 c = enc (p1 cm c x w0 o0 w1 o1)) (h2 : cm 2 c = enc (p2 cm c x w0 o0 w1 o1 w2 o2)) :
  iprop(argsAt c x w0 o0 w1 o1 w2 o2 ∗ (∃ f, own c (Memref.whole main_v1) f) ∗ scratchAny c
   ∗ slots c ∗ localZero c ∗ recs cm K ∗ exch c ∗ levAts L lv ∗ owes (c : Thread nD τ) (owed c left0) W
   ∗ ((argsAt c x w0 o0 w1 o1 w2 o2 ∗ own c (Memref.whole main_v1) (out cm c x w0 o0 w1 o1 w2 o2) ∗ scratchAny c
      ∗ slots c ∗ localZero c ∗ cellsZero c ∗ (∃ W', owes (c : Thread nD τ) 0 W')) -∗ Q ⟨⟩))
  ⊢ wp frame (wpE (defs₀ (F := F)) Variants.none (c : Thread nD τ) none) Set.univ (bodyAt0 (F := F) t0_0) Q := by
  unfold argsAt scratchAny slots localZero exch cellsZero
  simp only [sep3]
  iintro ⟨⟨H0, H1, H2, H3, H4, H5, H6⟩, ⟨%r, H7⟩, ⟨⟨%s0, HS0⟩, ⟨%s1, HS1⟩, ⟨%s2, HS2⟩, ⟨%s4, HS4⟩⟩,
    ⟨⟨⟨%e0, Ho0⟩, ⟨%e1, Ho1⟩, ⟨%e2, Ho2⟩⟩, Hp0, Hp1, Hp2⟩, ⟨D0, D1, D2, D3, D4, D5, D6, D7, D8⟩, #Hr,
    ⟨⟨Tb0, Tb1, Tb2⟩, ⟨⟨⟨Ts00, Tr00⟩, ⟨Ts01, Tr01⟩, ⟨Ts02, Tr02⟩⟩, ⟨⟨Ts10, Tr10⟩, ⟨Ts11, Tr11⟩, ⟨Ts12, Tr12⟩⟩,
        ⟨⟨Ts20, Tr20⟩, ⟨Ts21, Tr21⟩, ⟨Ts22, Tr22⟩⟩⟩,
      Ab, ⟨⟨⟨As00, Ar00⟩, ⟨As01, Ar01⟩, ⟨As02, Ar02⟩⟩, ⟨⟨As10, Ar10⟩, ⟨As11, Ar11⟩, ⟨As12, Ar12⟩⟩,
        ⟨⟨As20, Ar20⟩, ⟨As21, Ar21⟩, ⟨As22, Ar22⟩⟩⟩,
      Cb, ⟨Cr00, Cr01, Cr02⟩, ⟨Cr10, Cr11, Cr12⟩, Cr20, Cr21, Cr22⟩, #Hlev, HO, HQ⟩
  ihave #HM := (mayWaits_local c left0) $$ Hlev
  unfold bodyAt0
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  sl_exec
  iapply (step_signal cm K c left1 0 (dev1_eq c) rfl rfl) $$ [HO Tb0 Hp0]
  · isplitr; · iexact Hr
    isplitl [HO]; · iexact HO
    isplitl [Tb0]; · iexact Tb0
    rw [sep3]; iexact Hp0
  iintro HO
  sl_exec
  iapply (step_signal cm K c left2 1 (dev2_eq c) rfl rfl) $$ [HO Tb1 Hp1]
  · isplitr; · iexact Hr
    isplitl [HO]; · iexact HO
    isplitl [Tb1]; · iexact Tb1
    rw [sep3]; iexact Hp1
  iintro HO
  sl_exec
  iapply (step_signal cm K c left3 2 (dev3_eq c) rfl rfl) $$ [HO Tb2 Hp2]
  · isplitr; · iexact Hr
    isplitl [HO]; · iexact HO
    isplitl [Tb2]; · iexact Tb2
    rw [sep3]; iexact Hp2
  iintro HO
  sl_exec
  iapply (step_barwait cm K c left3 (by decide) rfl rfl) $$ [Cb HO Ab]
  · isplitr; · iexact Hr
    isplitr; · iexact Hlev
    isplitl [Cb]; · iexact Cb
    isplitl [HO]; · iexact HO
    iexact Ab
  iintro ⟨HO, Zb, Hpay⟩
  ihave Hpay := (bar_slots c) $$ Hpay
  icases Hpay with ⟨⟨Hq00, Hq10, Hq20⟩, ⟨Hq01, Hq11, Hq21⟩, ⟨Hq02, Hq12, Hq22⟩⟩
  ihave #HM3 := (mayWaits_local c left3) $$ Hlev
  sl_exec
  iapply (step_load c 0 c fullShare e0 _ rfl (k0_off1_eq c)) $$ Ho0
  iintro Ho0
  rw [wp_bind]
  iapply (step_store c 0 c e0 (k0_off1_eq c)) $$ Ho0
  iintro ⟨%f0, %hf0, Ho0⟩
  have hp0 :=
    partA_eq (x_back s0 (xOf x)) (win_a s1 (aOf w0) (bOf w0) w1 w2) (win_b s1 (aOf w0) (bOf w0) w1 w2) (wout_0 s2 o0 o1 o2)
  have hs0 : slotRead 0 c f0 = cm 0 c := hf0.trans ((congrArg enc hp0).trans h0.symm)
  sl_exec
  ihave Ho0 := (slot_lend c 0 c f0) $$ Ho0
  icases Ho0 with ⟨Hs00, Hs01, Hs02⟩
  iapply (step_send cm K c left4 0 1 (dev4_eq c) (k0_off3_eq c) (k0_off3_eq c) (send_sem 0 1 ![0, 1, 0] rfl) (recv_sem 0 c (k0_off2_eq c)) f0 hs0) $$ [Hs01 Hq01 Ts01 Tr01 HO]
  · isplitr; · iexact Hr
    isplitl [Hs01]; · iexact Hs01
    isplitl [Hq01]; · iexact Hq01
    isplitl [Ts01]; · iexact Ts01
    isplitl [Tr01]; · iexact Tr01
    iexact HO
  iintro ⟨Cs01, HO⟩
  sl_exec
  iapply (step_send cm K c left5 0 0 (dev5_eq c) (k0_off3_eq c) (k0_off3_eq c) (send_sem 0 0 ![0, 0, 0] rfl) (recv_sem 0 c (k0_off2_eq c)) f0 hs0) $$ [Hs00 Hq00 Ts00 Tr00 HO]
  · isplitr; · iexact Hr
    isplitl [Hs00]; · iexact Hs00
    isplitl [Hq00]; · iexact Hq00
    isplitl [Ts00]; · iexact Ts00
    isplitl [Tr00]; · iexact Tr00
    iexact HO
  iintro ⟨Cs00, HO⟩
  sl_exec
  iapply (step_send cm K c left6 0 2 (dev6_eq c) (k0_off3_eq c) (k0_off3_eq c) (send_sem 0 2 ![0, 2, 0] rfl) (recv_sem 0 c (k0_off2_eq c)) f0 hs0) $$ [Hs02 Hq02 Ts02 Tr02 HO]
  · isplitr; · iexact Hr
    isplitl [Hs02]; · iexact Hs02
    isplitl [Hq02]; · iexact Hq02
    isplitl [Ts02]; · iexact Ts02
    isplitl [Tr02]; · iexact Tr02
    iexact HO
  iintro ⟨Cs02, HO⟩
  ihave #HM6 := (mayWaits_local c left6) $$ Hlev
  sl_exec
  iapply (step_recv cm K c left6 0 0 (by decide) (recv_sem 0 (rot 0 c) (off4_at1 c))) $$ [Cr00 HO Ar00]
  · isplitr; · iexact Hr
    isplitr; · iexact Hlev
    isplitl [Cr00]; · iexact Cr00
    isplitl [HO]; · iexact HO
    iexact Ar00
  iintro ⟨HO, Zr00, ⟨%g00, %hg00, Hg00⟩⟩
  iapply (step_load c 0 (rot 0 c) fullShare g00 _ hg00 (off6_at1 c)) $$ Hg00
  iintro Hg00
  rw [ret_then]
  sl_exec
  iapply (step_recv cm K c left6 0 2 (by decide) (recv_sem 0 (rot 2 c) (off4_at3 c))) $$ [Cr02 HO Ar02]
  · isplitr; · iexact Hr
    isplitr; · iexact Hlev
    isplitl [Cr02]; · iexact Cr02
    isplitl [HO]; · iexact HO
    iexact Ar02
  iintro ⟨HO, Zr02, ⟨%g02, %hg02, Hg02⟩⟩
  iapply (step_load c 0 (rot 2 c) fullShare g02 _ hg02 (off6_at3 c)) $$ Hg02
  iintro Hg02
  rw [ret_then]
  sl_exec
  iapply (step_recv cm K c left6 0 1 (by decide) (recv_sem 0 (rot 1 c) (off4_at2 c))) $$ [Cr01 HO Ar01]
  · isplitr; · iexact Hr
    isplitr; · iexact Hlev
    isplitl [Cr01]; · iexact Cr01
    isplitl [HO]; · iexact HO
    iexact Ar01
  iintro ⟨HO, Zr01, ⟨%g01, %hg01, Hg01⟩⟩
  iapply (step_load c 0 (rot 1 c) fullShare g01 _ hg01 (off6_at2 c)) $$ Hg01
  iintro Hg01
  rw [ret_then]
  iapply (step_load c 1 c fullShare e1 _ rfl (k0_off7_eq c)) $$ Ho1
  iintro Ho1
  rw [ret_then]
  iapply (step_store c 1 c e1 (k0_off7_eq c)) $$ Ho1
  iintro ⟨%f1, %hf1, Ho1⟩
  have hp1 := (partB_eq1 (q₀ := cm 0 (rot 0 c)) (q₂ := cm 0 (rot 2 c)) (q₁ := cm 0 (rot 1 c)) (win_1 s1 (aOf w0) (bOf w0) w1 w2) (wout_1 s2 o0 o1 o2)).trans
      (congrArg (fun p => partB (comb cm 0 c p) w1 o1) hp0)
  have hs1 : slotRead 1 c f1 = cm 1 c := hf1.trans ((congrArg enc hp1).trans h1.symm)
  rw [ret_then]
  sl_exec
  ihave Ho1 := (slot_lend c 1 c f1) $$ Ho1
  icases Ho1 with ⟨Hs10, Hs11, Hs12⟩
  iapply (step_send cm K c left7 1 1 (dev7_eq c) (k0_off9_eq c) (k0_off9_eq c) (send_sem 1 1 ![1, 1, 0] rfl) (recv_sem 1 c (k0_off8_eq c)) f1 hs1) $$ [Hs11 Hq11 Ts11 Tr11 HO]
  · isplitr; · iexact Hr
    isplitl [Hs11]; · iexact Hs11
    isplitl [Hq11]; · iexact Hq11
    isplitl [Ts11]; · iexact Ts11
    isplitl [Tr11]; · iexact Tr11
    iexact HO
  iintro ⟨Cs11, HO⟩
  sl_exec
  iapply (step_send cm K c left8 1 0 (dev8_eq c) (k0_off9_eq c) (k0_off9_eq c) (send_sem 1 0 ![1, 0, 0] rfl) (recv_sem 1 c (k0_off8_eq c)) f1 hs1) $$ [Hs10 Hq10 Ts10 Tr10 HO]
  · isplitr; · iexact Hr
    isplitl [Hs10]; · iexact Hs10
    isplitl [Hq10]; · iexact Hq10
    isplitl [Ts10]; · iexact Ts10
    isplitl [Tr10]; · iexact Tr10
    iexact HO
  iintro ⟨Cs10, HO⟩
  sl_exec
  iapply (step_send cm K c left9 1 2 (dev9_eq c) (k0_off9_eq c) (k0_off9_eq c) (send_sem 1 2 ![1, 2, 0] rfl) (recv_sem 1 c (k0_off8_eq c)) f1 hs1) $$ [Hs12 Hq12 Ts12 Tr12 HO]
  · isplitr; · iexact Hr
    isplitl [Hs12]; · iexact Hs12
    isplitl [Hq12]; · iexact Hq12
    isplitl [Ts12]; · iexact Ts12
    isplitl [Tr12]; · iexact Tr12
    iexact HO
  iintro ⟨Cs12, HO⟩
  ihave #HM9 := (mayWaits_local c left9) $$ Hlev
  sl_exec
  iapply (step_recv cm K c left9 1 0 (by decide) (recv_sem 1 (rot 0 c) (off10_at1 c))) $$ [Cr10 HO Ar10]
  · isplitr; · iexact Hr
    isplitr; · iexact Hlev
    isplitl [Cr10]; · iexact Cr10
    isplitl [HO]; · iexact HO
    iexact Ar10
  iintro ⟨HO, Zr10, ⟨%g10, %hg10, Hg10⟩⟩
  iapply (step_load c 1 (rot 0 c) fullShare g10 _ hg10 (off12_at1 c)) $$ Hg10
  iintro Hg10
  rw [ret_then]
  sl_exec
  iapply (step_recv cm K c left9 1 2 (by decide) (recv_sem 1 (rot 2 c) (off10_at3 c))) $$ [Cr12 HO Ar12]
  · isplitr; · iexact Hr
    isplitr; · iexact Hlev
    isplitl [Cr12]; · iexact Cr12
    isplitl [HO]; · iexact HO
    iexact Ar12
  iintro ⟨HO, Zr12, ⟨%g12, %hg12, Hg12⟩⟩
  iapply (step_load c 1 (rot 2 c) fullShare g12 _ hg12 (off12_at3 c)) $$ Hg12
  iintro Hg12
  rw [ret_then]
  sl_exec
  iapply (step_recv cm K c left9 1 1 (by decide) (recv_sem 1 (rot 1 c) (off10_at2 c))) $$ [Cr11 HO Ar11]
  · isplitr; · iexact Hr
    isplitr; · iexact Hlev
    isplitl [Cr11]; · iexact Cr11
    isplitl [HO]; · iexact HO
    iexact Ar11
  iintro ⟨HO, Zr11, ⟨%g11, %hg11, Hg11⟩⟩
  iapply (step_load c 1 (rot 1 c) fullShare g11 _ hg11 (off12_at2 c)) $$ Hg11
  iintro Hg11
  rw [ret_then]
  iapply (step_load c 2 c fullShare e2 _ rfl (k0_off13_eq c)) $$ Ho2
  iintro Ho2
  rw [ret_then]
  sl_exec
  iapply (step_store c 2 c e2 (k0_off13_eq c)) $$ Ho2
  iintro ⟨%f2, %hf2, Ho2⟩
  have hp2 := (partB_eq2 (q₀ := cm 1 (rot 0 c)) (q₂ := cm 1 (rot 2 c)) (q₁ := cm 1 (rot 1 c)) (win_2 s1 (aOf w0) (bOf w0) w1 w2) (wout_2 s2 o0 o1 o2)).trans
      (congrArg (fun p => partB (comb cm 1 c p) w2 o2) hp1)
  have hs2 : slotRead 2 c f2 = cm 2 c := hf2.trans ((congrArg enc hp2).trans h2.symm)
  sl_exec
  ihave Ho2 := (slot_lend c 2 c f2) $$ Ho2
  icases Ho2 with ⟨Hs20, Hs21, Hs22⟩
  iapply (step_send cm K c left10 2 1 (dev10_eq c) (k0_off15_eq c) (k0_off15_eq c) (send_sem 2 1 ![2, 1, 0] rfl) (recv_sem 2 c (k0_off14_eq c)) f2 hs2) $$ [Hs21 Hq21 Ts21 Tr21 HO]
  · isplitr; · iexact Hr
    isplitl [Hs21]; · iexact Hs21
    isplitl [Hq21]; · iexact Hq21
    isplitl [Ts21]; · iexact Ts21
    isplitl [Tr21]; · iexact Tr21
    iexact HO
  iintro ⟨Cs21, HO⟩
  sl_exec
  iapply (step_send cm K c left11 2 0 (dev11_eq c) (k0_off15_eq c) (k0_off15_eq c) (send_sem 2 0 ![2, 0, 0] rfl) (recv_sem 2 c (k0_off14_eq c)) f2 hs2) $$ [Hs20 Hq20 Ts20 Tr20 HO]
  · isplitr; · iexact Hr
    isplitl [Hs20]; · iexact Hs20
    isplitl [Hq20]; · iexact Hq20
    isplitl [Ts20]; · iexact Ts20
    isplitl [Tr20]; · iexact Tr20
    iexact HO
  iintro ⟨Cs20, HO⟩
  sl_exec
  iapply (step_send cm K c left12 2 2 (dev12_eq c) (k0_off15_eq c) (k0_off15_eq c) (send_sem 2 2 ![2, 2, 0] rfl) (recv_sem 2 c (k0_off14_eq c)) f2 hs2) $$ [Hs22 Hq22 Ts22 Tr22 HO]
  · isplitr; · iexact Hr
    isplitl [Hs22]; · iexact Hs22
    isplitl [Hq22]; · iexact Hq22
    isplitl [Ts22]; · iexact Ts22
    isplitl [Tr22]; · iexact Tr22
    iexact HO
  iintro ⟨Cs22, HO⟩
  ihave #HM12 := (mayWaits_local c left12) $$ Hlev
  sl_exec
  iapply (step_recv cm K c left12 2 0 (by decide) (recv_sem 2 (rot 0 c) (off16_at1 c))) $$ [Cr20 HO Ar20]
  · isplitr; · iexact Hr
    isplitr; · iexact Hlev
    isplitl [Cr20]; · iexact Cr20
    isplitl [HO]; · iexact HO
    iexact Ar20
  iintro ⟨HO, Zr20, ⟨%g20, %hg20, Hg20⟩⟩
  sl_exec
  iapply (step_load c 2 (rot 0 c) fullShare g20 _ hg20 (off18_at1 c)) $$ Hg20
  iintro Hg20
  sl_exec
  iapply (step_recv cm K c left12 2 2 (by decide) (recv_sem 2 (rot 2 c) (off16_at3 c))) $$ [Cr22 HO Ar22]
  · isplitr; · iexact Hr
    isplitr; · iexact Hlev
    isplitl [Cr22]; · iexact Cr22
    isplitl [HO]; · iexact HO
    iexact Ar22
  iintro ⟨HO, Zr22, ⟨%g22, %hg22, Hg22⟩⟩
  iapply (step_load c 2 (rot 2 c) fullShare g22 _ hg22 (off18_at3 c)) $$ Hg22
  iintro Hg22
  rw [ret_then]
  sl_exec
  iapply (step_recv cm K c left12 2 1 (by decide) (recv_sem 2 (rot 1 c) (off16_at2 c))) $$ [Cr21 HO Ar21]
  · isplitr; · iexact Hr
    isplitr; · iexact Hlev
    isplitl [Cr21]; · iexact Cr21
    isplitl [HO]; · iexact HO
    iexact Ar21
  iintro ⟨HO, Zr21, ⟨%g21, %hg21, Hg21⟩⟩
  iapply (step_load c 2 (rot 1 c) fullShare g21 _ hg21 (off18_at2 c)) $$ Hg21
  iintro Hg21
  rw [ret_then]
  sl_exec
  iapply (step_sendwait cm K c left12 0 1 (send_sem 0 1 ![0, 1, 0] rfl)) $$ [Cs01 HO As01]
  · isplitr; · iexact Hr
    isplitr; · iexact Hlev
    isplitl [Cs01]; · iexact Cs01
    isplitl [HO]; · iexact HO
    iexact As01
  iintro ⟨HO, Zs01, Hs01⟩
  sl_exec
  iapply (step_sendwait cm K c left12 0 0 (send_sem 0 0 ![0, 0, 0] rfl)) $$ [Cs00 HO As00]
  · isplitr; · iexact Hr
    isplitr; · iexact Hlev
    isplitl [Cs00]; · iexact Cs00
    isplitl [HO]; · iexact HO
    iexact As00
  iintro ⟨HO, Zs00, Hs00⟩
  sl_exec
  iapply (step_sendwait cm K c left12 0 2 (send_sem 0 2 ![0, 2, 0] rfl)) $$ [Cs02 HO As02]
  · isplitr; · iexact Hr
    isplitr; · iexact Hlev
    isplitl [Cs02]; · iexact Cs02
    isplitl [HO]; · iexact HO
    iexact As02
  iintro ⟨HO, Zs02, Hs02⟩
  sl_exec
  iapply (step_sendwait cm K c left12 1 1 (send_sem 1 1 ![1, 1, 0] rfl)) $$ [Cs11 HO As11]
  · isplitr; · iexact Hr
    isplitr; · iexact Hlev
    isplitl [Cs11]; · iexact Cs11
    isplitl [HO]; · iexact HO
    iexact As11
  iintro ⟨HO, Zs11, Hs11⟩
  sl_exec
  iapply (step_sendwait cm K c left12 1 0 (send_sem 1 0 ![1, 0, 0] rfl)) $$ [Cs10 HO As10]
  · isplitr; · iexact Hr
    isplitr; · iexact Hlev
    isplitl [Cs10]; · iexact Cs10
    isplitl [HO]; · iexact HO
    iexact As10
  iintro ⟨HO, Zs10, Hs10⟩
  sl_exec
  iapply (step_sendwait cm K c left12 1 2 (send_sem 1 2 ![1, 2, 0] rfl)) $$ [Cs12 HO As12]
  · isplitr; · iexact Hr
    isplitr; · iexact Hlev
    isplitl [Cs12]; · iexact Cs12
    isplitl [HO]; · iexact HO
    iexact As12
  iintro ⟨HO, Zs12, Hs12⟩
  sl_exec
  iapply (step_sendwait cm K c left12 2 1 (send_sem 2 1 ![2, 1, 0] rfl)) $$ [Cs21 HO As21]
  · isplitr; · iexact Hr
    isplitr; · iexact Hlev
    isplitl [Cs21]; · iexact Cs21
    isplitl [HO]; · iexact HO
    iexact As21
  iintro ⟨HO, Zs21, Hs21⟩
  sl_exec
  iapply (step_sendwait cm K c left12 2 0 (send_sem 2 0 ![2, 0, 0] rfl)) $$ [Cs20 HO As20]
  · isplitr; · iexact Hr
    isplitr; · iexact Hlev
    isplitl [Cs20]; · iexact Cs20
    isplitl [HO]; · iexact HO
    iexact As20
  iintro ⟨HO, Zs20, Hs20⟩
  iapply (step_sendwait cm K c left12 2 2 (send_sem 2 2 ![2, 2, 0] rfl)) $$ [Cs22 HO As22]
  · isplitr; · iexact Hr
    isplitr; · iexact Hlev
    isplitl [Cs22]; · iexact Cs22
    isplitl [HO]; · iexact HO
    iexact As22
  iintro ⟨HO, Zs22, Hs22⟩
  rw [ret_then]
  sl_exec
  have hout := (out_back s4 r _).trans ((out_eq (q₀ := cm 2 (rot 0 c)) (q₂ := cm 2 (rot 2 c)) (q₁ := cm 2 (rot 1 c))).trans
    (congrArg (fun p => truncf .bf16 (comb cm 2 c p) bitsLt_bf16_f32) hp2))
  ihave R0 := (slot_regain c 0) $$ [Hs00 Hs01 Hs02]
  · isplitl [Hs00]; · iexact Hs00
    isplitl [Hs01]; · iexact Hs01
    iexact Hs02
  ihave R1 := (slot_regain c 1) $$ [Hs10 Hs11 Hs12]
  · isplitl [Hs10]; · iexact Hs10
    isplitl [Hs11]; · iexact Hs11
    iexact Hs12
  ihave R2 := (slot_regain c 2) $$ [Hs20 Hs21 Hs22]
  · isplitl [Hs20]; · iexact Hs20
    isplitl [Hs21]; · iexact Hs21
    iexact Hs22
  rw [wp_ret]
  imodintro
  iapply HQ
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]
  · have e : ∀ f, f = out cm c x w0 o0 w1 o1 w2 o2 → (own (F := F) c (Memref.whole main_v1) f ⊢ own c (Memref.whole main_v1) (out cm c x w0 o0 w1 o1 w2 o2)) :=
      fun f h => Entails.of_eq (congrArg _ h)
    iapply (e _ ?_) $$ H7; exact hout
  isplitl [HS0 HS1 HS2 HS4]
  · isplitl [HS0]; · iexists _; iexact HS0
    isplitl [HS1]; · iexists _; iexact HS1
    isplitl [HS2]; · iexists _; iexact HS2
    iexists _; iexact HS4
  isplitl [R0 R1 R2 Hg00 Hg10 Hg20 Hg01 Hg11 Hg21 Hg02 Hg12 Hg22]
  · isplitl [R0 R1 R2]
    · isplitl [R0]; · iexact R0
      isplitl [R1]; · iexact R1
      iexact R2
    isplitl [Hg00 Hg10 Hg20]
    · isplitl [Hg00]; · iexists _; iexact Hg00
      isplitl [Hg10]; · iexists _; iexact Hg10
      iexists _; iexact Hg20
    isplitl [Hg01 Hg11 Hg21]
    · isplitl [Hg01]; · iexists _; iexact Hg01
      isplitl [Hg11]; · iexists _; iexact Hg11
      iexists _; iexact Hg21
    isplitl [Hg02]; · iexists _; iexact Hg02
    isplitl [Hg12]; · iexists _; iexact Hg12
    iexists _; iexact Hg22
  isplitl [D0 D1 D2 D3 D4 D5 D6 D7 D8]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    iexact D8
  isplitl [Zb Zs00 Zr00 Zs01 Zr01 Zs02 Zr02 Zs10 Zr10 Zs11 Zr11 Zs12 Zr12 Zs20 Zr20 Zs21 Zr21 Zs22 Zr22]
  · isplitl [Zb]; · iexact Zb
    isplitl [Zs00 Zr00 Zs01 Zr01 Zs02 Zr02]
    · isplitl [Zs00 Zr00]
      · isplitl [Zs00]; · iexact Zs00
        iexact Zr00
      isplitl [Zs01 Zr01]
      · isplitl [Zs01]; · iexact Zs01
        iexact Zr01
      isplitl [Zs02]; · iexact Zs02
      iexact Zr02
    isplitl [Zs10 Zr10 Zs11 Zr11 Zs12 Zr12]
    · isplitl [Zs10 Zr10]
      · isplitl [Zs10]; · iexact Zs10
        iexact Zr10
      isplitl [Zs11 Zr11]
      · isplitl [Zs11]; · iexact Zs11
        iexact Zr11
      isplitl [Zs12]; · iexact Zs12
      iexact Zr12
    isplitl [Zs20 Zr20]
    · isplitl [Zs20]; · iexact Zs20
      iexact Zr20
    isplitl [Zs21 Zr21]
    · isplitl [Zs21]; · iexact Zs21
      iexact Zr21
    isplitl [Zs22]; · iexact Zs22
    iexact Zr22
  iexists _; iexact HO

end Cert.MlpProof
-- ==== Proof.Launch.lean ====
/-
  The launch of the four devices: the exchange's cells, duties and credit dealt out, every device's kernel run, and what
  every final memory holds.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Ring
public import Idealize.ShloMosaic.Lib.Tactic
public import proofs.«01_k».proof.Proof.Body

@[expose] public section

noncomputable section

namespace Cert.MlpProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

/-! ## Splitting families over devices and cells -/

/-- Entailments both ways make an equation. -/
theorem both {P Q : sProp 𝕄} (h : P ⊢ Q) (h' : Q ⊢ P) : P = Q := BI.Entails.antisymm h h'

/-- A family over a sum of types is its two halves. -/
theorem halves {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ

/-- A family over the devices is its member at `c` and its members at `c`'s three peers. -/
theorem devs (c : Dev nD) (Φ : Dev nD → sProp 𝕄) :
    bigSep Finset.univ Φ = iprop(Φ c ∗ bigSep Finset.univ fun j : Fin 3 => Φ (rot j c)) := by
  rw [sep3, bigSep_eq_bigSepL_of_eq (S := Finset.univ) [c, rot 0 c, rot 1 c, rot 2 c] (by revert c; decide) (by revert c; decide) Φ]
  rfl

/-- A family over a device's cells is its member at the barrier cell and, by layer and peer, its members at the departure
    and the arrival cell. -/
theorem cells_eq (Φ : CellIx → sProp 𝕄) :
    bigSep Finset.univ Φ = iprop(Φ none ∗ bigSep Finset.univ fun k : Fin 3 => bigSep Finset.univ fun j : Fin 3 =>
      iprop(Φ (some (false, k, j)) ∗ Φ (some (true, k, j)))) := by
  rw [BI.bigSep_univ_equiv (Equiv.optionEquivSumPUnit (Bool × Fin 3 × Fin 3)).symm, halves, BI.bigSep_univ_prod,
    bigSep_eq_bigSepL_of_eq (S := (Finset.univ : Finset Bool)) [false, true] (by decide) (by decide),
    BI.bigSep_univ_of_subsingleton PUnit.unit]
  simp only [bigSep_sep']
  refine (both (by iintro ⟨H, H'⟩; iframe H H') (by iintro ⟨H, H'⟩; iframe H H')).trans
    (?_ : iprop(Φ none ∗ _) = _)
  show iprop(Φ none ∗ (bigSep Finset.univ fun x : Fin 3 × Fin 3 => Φ (some (false, x)))
    ∗ bigSep Finset.univ fun x : Fin 3 × Fin 3 => Φ (some (true, x))) = _
  rw [BI.bigSep_univ_prod, BI.bigSep_univ_prod]

theorem cellAt_inj_sem : ∀ (c : Dev nD) (i i' : CellIx), (cellAt c i).2 = (cellAt c i').2 → i = i' := by
  decide +kernel

theorem cellAt_dev (c : Dev nD) (i : CellIx) : (cellAt c i).1.1 = c := by
  rcases i with _ | ⟨_ | _, _, _⟩ <;> rfl

theorem cellAt_injective : Function.Injective (fun x : Dev nD × CellIx => cellAt x.1 x.2) := by
  rintro ⟨c, i⟩ ⟨c', i'⟩ h
  obtain rfl : c = c' := by rw [← cellAt_dev c i, ← cellAt_dev c' i']; exact congrArg (fun g : GSem nD τ sig => g.1.1) h
  rw [cellAt_inj_sem c i i' (congrArg Prod.snd h)]

/-! ## The duties -/

/-- A duty of a device's own cells: the barrier's by peer, or a transfer cell's one. -/
abbrev TokIx : Type := Fin 3 ⊕ (Bool × Fin 3 × Fin 3)
/-- The cell, round and name of that duty. -/
def tokOf : Dev nD × TokIx → GSem nD τ sig × ℕ × Fin 3
  | (c, .inl j) => (barCell c, 0, j)
  | (c, .inr p) => (cellAt c (some p), 0, 0)
theorem tokOf_injective : Function.Injective tokOf := by
  rintro ⟨c, t⟩ ⟨c', t'⟩ h
  have hcell : ∀ (c : Dev nD) (t : TokIx), (tokOf (c, t)).1 = cellAt c (t.elim (fun _ => none) some) := by
    rintro c (j | p) <;> rfl
  have h1 := congrArg Prod.fst h
  rw [hcell, hcell] at h1
  have h2 := Prod.ext_iff.mp (cellAt_injective (a₁ := (c, _)) (a₂ := (c', _)) h1)
  obtain rfl : c = c' := h2.1
  have h3 := h2.2
  rcases t with j | p <;> rcases t' with j' | p'
  · rw [show j = j' from congrArg (fun x : GSem nD τ sig × ℕ × Fin 3 => x.2.2) h]
  · exact absurd h3 (by simp)
  · exact absurd h3 (by simp)
  · rw [show p = p' from Option.some.inj h3]
/-- The duty as a token. -/
abbrev tok (x : Dev nD × TokIx) : sProp 𝕄 := dutyTok ER (tokOf x).1 (tokOf x).2.1 (tokOf x).2.2

/-- Whose duty a device pays: its peers' barrier cells, its own departures, its peers' arrivals from it. -/
def deal : Dev nD × TokIx ≃ Dev nD × TokIx where
  toFun
    | (c, .inl j) => (rot j c, .inl j)
    | (c, .inr (false, k, j)) => (c, .inr (false, k, j))
    | (c, .inr (true, k, j)) => (rot j c, .inr (true, k, rev j))
  invFun
    | (d, .inl j) => (rot (rev j) d, .inl j)
    | (d, .inr (false, k, j)) => (d, .inr (false, k, j))
    | (d, .inr (true, k, j)) => (rot j d, .inr (true, k, rev j))
  left_inv := by
    rintro ⟨c, j | ⟨_ | _, k, j⟩⟩
    · show (rot (rev j) (rot j c), _) = _; rw [rot_rev]
    · rfl
    · show (rot (rev j) (rot j c), (Sum.inr (true, k, rev (rev j)) : TokIx)) = _
      rw [rot_rev, show rev (rev j) = j by revert j; decide]
  right_inv := by
    rintro ⟨c, j | ⟨_ | _, k, j⟩⟩
    · show (rot j (rot (rev j) c), _) = _; rw [rot_rev']
    · rfl
    · show (rot (rev j) (rot j c), (Sum.inr (true, k, rev (rev j)) : TokIx)) = _
      rw [rot_rev, show rev (rev j) = j by revert j; decide]

/-- The duties device `c` pays. -/
def payToks (c : Dev nD) : sProp 𝕄 := bigSep Finset.univ fun t : TokIx => tok (F := F) (deal (c, t))

theorem toks_dealt : (bigSep Finset.univ fun c : Dev nD => bigSep Finset.univ fun t : TokIx => tok (F := F) (c, t))
    = bigSep Finset.univ fun c : Dev nD => payToks (F := F) c := by
  rw [← BI.bigSep_univ_prod (fun x => tok (F := F) x), BI.bigSep_univ_equiv deal, BI.bigSep_univ_prod]; rfl

theorem payToks_eq (c : Dev nD) : payToks (F := F) c
    = iprop((bigSep Finset.univ fun j : Fin 3 => dutyTok ER (barCell (rot j c)) 0 j)
      ∗ bigSep Finset.univ fun k : Fin 3 => bigSep Finset.univ fun j : Fin 3 =>
        iprop(dutyTok ER (sendCell c k j) 0 0 ∗ dutyTok ER (recvCell (rot j c) k c) 0 0)) := by
  have hr : ∀ k j : Fin 3, tok (F := F) (deal (c, .inr (true, k, j))) = dutyTok ER (recvCell (rot j c) k c) 0 0 := by
    intro k j
    show dutyTok ER (recvCell (rot j c) k (rot (rev j) (rot j c))) 0 0 = _
    rw [rot_rev]
  unfold payToks
  rw [halves, BI.bigSep_univ_prod,
    bigSep_eq_bigSepL_of_eq (S := (Finset.univ : Finset Bool)) [false, true] (by decide) (by decide)]
  simp only [bigSep_sep']
  show iprop(_ ∗ (bigSep Finset.univ fun x : Fin 3 × Fin 3 => tok (F := F) (deal (c, .inr (false, x))))
    ∗ bigSep Finset.univ fun x : Fin 3 × Fin 3 => tok (F := F) (deal (c, .inr (true, x)))) = _
  rw [BI.bigSep_univ_prod, BI.bigSep_univ_prod]
  simp only [hr]
  rfl

/-- The positions device `c` waits from. -/
def posns (c : Dev nD) : sProp 𝕄 := bigSep Finset.univ fun i : CellIx => atPos ER (cellAt c i) 0 ∅ 0
theorem posns_eq (c : Dev nD) : posns (F := F) c
    = iprop(atPos ER (barCell c) 0 ∅ 0
      ∗ bigSep Finset.univ fun k : Fin 3 => bigSep Finset.univ fun j : Fin 3 =>
        iprop(atPos ER (sendCell c k j) 0 ∅ 0 ∗ atPos ER (recvCell c k (rot j c)) 0 ∅ 0)) := by
  unfold posns; rw [cells_eq]; rfl

/-! ## The credit -/

/-- What a device is paid by the device that takes step `a` at it. -/
def got (c : Dev nD) : Step → CellTallies nD τ sig Bool
  | (none, j) => tallyAt (barCell c) true 1
  | (some k, j) => tallyAt (recvCell c k (rot (rev j) c)) true N
theorem due_eq_got (d : Dev nD) (a : Step) : due d a = got (rot a.2 d) a := by
  obtain ⟨_ | k, j⟩ := a
  · rfl
  · show _ = tallyAt (recvCell (rot j d) k (rot (rev j) (rot j d))) true N; rw [rot_rev]; rfl

theorem cred_got (a : Step) (c : Dev nD) : (Pipeline.launchCred (fun d => due d a) c : sProp 𝕄) = cred (got c a) := by
  refine Pipeline.launchCred_of_sum _ (fun d => got d a) ?_ ?_ c
  · exact (Finset.sum_congr rfl fun d _ => due_eq_got d a).trans (Equiv.sum_comp (turn a.2) fun d => got d a)
  · intro d g h
    obtain ⟨_ | k, j⟩ := a <;> refine by_contra fun hg => h ?_ <;> refine tallyAt_ne_cell (fun e => hg ?_) _ _ <;> rw [e]

/-- The credit matching the steps `l`, the first of them outermost. -/
def credits (c : Dev nD) : List Step → sProp 𝕄
  | [] => iprop(emp)
  | a :: l => iprop(credits c l ∗ cred (got c a))
theorem credits_eq (c : Dev nD) (l : List Step) : (Pipeline.launchCred (fun d => owed d l) c : sProp 𝕄) = credits c l := by
  induction l with
  | nil => exact Pipeline.launchCred_zero c
  | cons a l ih =>
    show (Pipeline.launchCred (fun d => owed d l + due d a) c : sProp 𝕄) = iprop(credits c l ∗ cred (got c a))
    rw [Pipeline.launchCred_add, ih, cred_got]

theorem creds (c : Dev nD) : (Pipeline.launchCred (fun d => owed d left0) c : sProp 𝕄)
    ⊢ iprop(cred (tallyAt (barCell c) true 3)
      ∗ bigSep Finset.univ fun k : Fin 3 => bigSep Finset.univ fun j : Fin 3 => cred (tallyAt (recvCell c k (rot j c)) true N)) := by
  have e : (tallyAt (barCell c) true 3 : CellTallies nD τ sig Bool)
      = tallyAt (barCell c) true 1 + (tallyAt (barCell c) true 1 + tallyAt (barCell c) true 1) := by
    rw [tallyAt_add, tallyAt_add]
  rw [credits_eq, e, BI.Entails.antisymm (cred_add _ _).1 (cred_add _ _).2, BI.Entails.antisymm (cred_add _ _).1 (cred_add _ _).2]
  simp only [sep3]
  unfold credits
  unfold credits
  simp only [credits]
  iintro ⟨⟨⟨⟨⟨⟨⟨⟨⟨⟨⟨⟨-, H22⟩, H20⟩, H21⟩, H12⟩, H10⟩, H11⟩, H02⟩, H00⟩, H01⟩, B2⟩, B1⟩, B0⟩
  iframe B0 B1 B2 H00 H01 H02 H10 H11 H12 H20 H21 H22

/-! ## The semaphores -/

/-- A kernel's own transfer semaphores: nine local ones, the departures' by layer and peer, the arrivals' by layer and sender. -/
abbrev OwnIx : Type := Fin 9 ⊕ ((Fin 3 × Fin 3) ⊕ (Fin 3 × Dev nD))
set_option backward.proofsInPublic true in
def osem : OwnIx → SemLoc sig
  | .inl q => .dma ⟨q.val, by show _ < 30; have := q.isLt; omega⟩
  | .inr (.inl (k, j)) => .dma (sendSem k j)
  | .inr (.inr (k, s)) => .dma (recvSem k s)
theorem ownSemFacts : Pipeline.OwnSemFacts cfg0.spec osem := by decide +kernel

/-- The three arrival counters no message reaches, those of a device's messages to itself, at zero. -/
def idleZero (c : Dev nD) : sProp 𝕄 := bigSep Finset.univ fun k : Fin 3 => semVal (recvCell c k c) 0

/-- The launch's semaphores of a device: the local ones, the idle ones and the exchange's. -/
theorem sems_eq (c : Dev nD) :
    (iprop(Pipeline.ownSems0 (Ix := Bool) (Name := ℕ) (U := UU) (Lvl := ℕ) (Val := Elt F) (τ := τ) osem c ∗ unscopedSems0 c) : sProp 𝕄)
      = iprop(localZero c ∗ idleZero c ∗ cellsZero c) := by
  have h9 : (bigSep Finset.univ fun q : Fin 9 => (semVal ((c.tc : Thread nD τ), osem (.inl q)) 0 : sProp 𝕄)) = localZero c :=
    bigSep_eq_bigSepL_of_eq (S := Finset.univ) [0, 1, 2, 3, 4, 5, 6, 7, 8] (by decide) (by decide) _
  have hb : (unscopedSems0 c : sProp 𝕄) = semVal (barCell c) 0 := by
    unfold unscopedSems0; rw [bigSep_eq_bigSepL_of_eq [SemLoc.reg barS] (by decide) (by decide)]; rfl
  unfold Pipeline.ownSems0
  rw [halves, halves, h9, hb, BI.bigSep_univ_prod, BI.bigSep_univ_prod]
  unfold cellsZero idleZero
  simp only [devs c, bigSep_sep']
  refine both ?_ ?_
  · iintro ⟨⟨HL, HS, HI, HR⟩, HB⟩
    iframe HL HI HB HS HR
  · iintro ⟨HL, HI, HB, HS, HR⟩
    iframe HL HI HB HS HR

/-! ## The slots -/

/-- The elements of slot `[k, s]`. -/
abbrev slotBox (x : Fin 3 × Dev nD) : Finset S3x4x1x64x512.Idx := (slotR x.1 x.2).set
theorem mem_slotBox (x : Fin 3 × Dev nD) (i : S3x4x1x64x512.Idx) : i ∈ slotBox x ↔ (i 0).val = x.1.val ∧ (i 1).val = x.2.val := by
  rw [Rect.mem_set_unit]
  have h2 : (i 2).val < 1 := (i 2).isLt
  have h3 : (i 3).val < 64 := (i 3).isLt
  have h4 : (i 4).val < 512 := (i 4).isLt
  constructor
  · intro H
    have a0 : x.1.val ≤ (i 0).val ∧ (i 0).val < x.1.val + 1 := H 0
    have a1 : x.2.val ≤ (i 1).val ∧ (i 1).val < x.2.val + 1 := H 1
    omega
  · rintro ⟨h0, h1⟩ a
    fin_cases a
    · show x.1.val ≤ (i 0).val ∧ (i 0).val < x.1.val + 1; omega
    · show x.2.val ≤ (i 1).val ∧ (i 1).val < x.2.val + 1; omega
    · show 0 ≤ (i 2).val ∧ (i 2).val < 0 + 1; omega
    · show 0 ≤ (i 3).val ∧ (i 3).val < 0 + 64; omega
    · show 0 ≤ (i 4).val ∧ (i 4).val < 0 + 512; omega
theorem slotBox_disjoint (x x' : Fin 3 × Dev nD) (h : x ≠ x') : Disjoint (slotBox x) (slotBox x') := by
  rw [Finset.disjoint_left]; intro i hi hi'
  rw [mem_slotBox] at hi hi'
  exact h (Prod.ext (Fin.ext (hi.1.symm.trans hi'.1)) (Fin.ext (hi.2.symm.trans hi'.2)))
theorem slotBox_cover : (Finset.univ : Finset (Fin 3 × Dev nD)).biUnion slotBox = Finset.univ := by
  ext i
  simp only [Finset.mem_biUnion, Finset.mem_univ, true_and, iff_true]
  exact ⟨((i 0).cast rfl, (i 1).cast rfl), by rw [mem_slotBox]; exact ⟨rfl, rfl⟩⟩
theorem slotPts_box (c : Dev nD) (x : Fin 3 × Dev nD) (f : CBuf (F := F) c) :
    slotPts c x.1 x.2 fullShare f = (((c : Thread nD τ).loc cc0_scratch3) ↦[slotBox x]{fullShare} f : sProp 𝕄) :=
  congrArg (fun S => (((c : Thread nD τ).loc cc0_scratch3) ↦[S]{fullShare} f : sProp 𝕄))
    ((slot_set x.1 x.2).trans (View.set_slice_whole _ _))

/-- The buffer of slots, whole at some contents, is the twelve slots. -/
theorem slots_eq (c : Dev nD) :
    (iprop(∃ f : CBuf (F := F) c, ((c : Thread nD τ).loc cc0_scratch3) ↦{fullShare} f) : sProp 𝕄) = slots c := by
  have hs : slots (F := F) c = bigSep Finset.univ fun x : Fin 3 × Dev nD => iprop(∃ f, slotPts (F := F) c x.1 x.2 fullShare f) := by
    unfold slots
    rw [BI.bigSep_univ_prod]
    simp only [devs c, bigSep_sep']
    rw [BI.bigSep_univ_comm]
  rw [hs]
  refine both ?_ ?_
  · iintro ⟨%f, H⟩
    ihave H := (Entails.of_eq (Ring.pointsTo_blocks (Ix := Bool) (Name := ℕ) (U := UU) (Lvl := ℕ) (q := fullShare)
      (ℓ := (c : Thread nD τ).loc cc0_scratch3) slotBox slotBox_disjoint slotBox_cover f)) $$ H
    iapply (show (bigSep Finset.univ fun x => (((c : Thread nD τ).loc cc0_scratch3) ↦[slotBox x]{fullShare} f : sProp 𝕄)) ⊢ _ from
      bigSep_mono fun x _ => by
        rw [← slotPts_box]
        show slotPts c x.1 x.2 fullShare f ⊢ iprop(∃ f, slotPts c x.1 x.2 fullShare f)
        iintro H; iexists f; iexact H)
    iexact H
  · refine (Entails.of_eq (bigSep_congr fun x _ => ?_)).trans (Ring.pointsTo_blocks_join_exists (Ix := Bool) (Name := ℕ) (U := UU)
      (Lvl := ℕ) (q := fullShare) (ℓ := (c : Thread nD τ).loc cc0_scratch3) slotBox slotBox_disjoint slotBox_cover
      (Classical.arbitrary (CBuf (F := F) c)))
    simp only [slotPts_box]

/-! ## The messages of a memory -/

variable (m : (ℓ : Loc nD τ sig) → Buf (Elt F) ℓ) (ρ : Dev nD → PrngReg)

/-- What a device's memory holds in `b`. -/
abbrev memAt (c : Dev nD) (b : Ref sig .tc) : Buf (Elt F) ((c : Thread nD τ).loc b) := m ((c : Thread nD τ).loc b)
/-- The first layer's partial sum of a device. -/
abbrev part0 (c : Dev nD) : Vec F S64x512 .f32 := p0 (memAt m c main_arg0) (memAt m c main_arg1) (memAt m c main_arg2)
/-- The second layer's, given the messages. -/
abbrev part1 (cm : Fin 3 → Dev nD → Vec F S1x1x1x64x512 .bf16) (c : Dev nD) : Vec F S64x512 .f32 :=
  p1 cm c (memAt m c main_arg0) (memAt m c main_arg1) (memAt m c main_arg2) (memAt m c main_arg3) (memAt m c main_arg4)
/-- The third layer's. -/
abbrev part2 (cm : Fin 3 → Dev nD → Vec F S1x1x1x64x512 .bf16) (c : Dev nD) : Vec F S64x512 .f32 :=
  p2 cm c (memAt m c main_arg0) (memAt m c main_arg1) (memAt m c main_arg2) (memAt m c main_arg3) (memAt m c main_arg4)
    (memAt m c main_arg5) (memAt m c main_arg6)
/-- The messages of the first layer, -/
def msg0 (c : Dev nD) : Vec F S1x1x1x64x512 .bf16 := enc (part0 m c)
/-- of the second, computed from the first, -/
def msg1 (c : Dev nD) : Vec F S1x1x1x64x512 .bf16 := enc (part1 m (fun _ => msg0 m) c)
/-- and of the third, computed from both. -/
def msg2 (c : Dev nD) : Vec F S1x1x1x64x512 .bf16 := enc (part2 m ![msg0 m, msg1 m, msg1 m] c)
/-- All messages of a memory, by layer and sender. -/
def msgs : Fin 3 → Dev nD → Vec F S1x1x1x64x512 .bf16 := ![msg0 m, msg1 m, msg2 m]
/-- The result of device `c`. -/
def result (c : Dev nD) : BufAt F c (Memref.whole main_v1) :=
  out (msgs m) c (memAt m c main_arg0) (memAt m c main_arg1) (memAt m c main_arg2) (memAt m c main_arg3) (memAt m c main_arg4)
    (memAt m c main_arg5) (memAt m c main_arg6)

/-- The second layer's partial sum reads only the first layer's messages. -/
theorem part1_congr {cm cm' : Fin 3 → Dev nD → Vec F S1x1x1x64x512 .bf16} (h : cm 0 = cm' 0) (c : Dev nD) :
    part1 m cm c = part1 m cm' c := by
  unfold part1 p1 comb; rw [h]
/-- The third layer's reads the first and the second layer's. -/
theorem part2_congr {cm cm' : Fin 3 → Dev nD → Vec F S1x1x1x64x512 .bf16} (h : cm 0 = cm' 0) (h' : cm 1 = cm' 1) (c : Dev nD) :
    part2 m cm c = part2 m cm' c := by
  unfold part2 p2
  rw [show p1 cm c _ _ _ _ _ = p1 cm' c _ _ _ _ _ from part1_congr m h c]
  unfold comb; rw [h']
theorem msgs_0 (c : Dev nD) : msgs m 0 c = enc (part0 m c) := rfl
theorem msgs_1 (c : Dev nD) : msgs m 1 c = enc (part1 m (msgs m) c) := by
  show msg1 m c = _
  unfold msg1
  rw [part1_congr m (cm := fun _ => msg0 m) (cm' := msgs m) (Eq.trans (b := msg0 m) rfl rfl)]
theorem msgs_2 (c : Dev nD) : msgs m 2 c = enc (part2 m (msgs m) c) := by
  show msg2 m c = _
  unfold msg2
  rw [part2_congr m (cm := ![msg0 m, msg1 m, msg1 m]) (cm' := msgs m) (Eq.trans (b := msg0 m) rfl rfl)
    (Eq.trans (b := msg1 m) rfl rfl)]

/-! ## What is dealt, and the run of one device -/

/-- A device's arguments as the memory has them. -/
def argsOf (c : Dev nD) : sProp 𝕄 :=
  argsAt c (memAt m c main_arg0) (memAt m c main_arg1) (memAt m c main_arg2) (memAt m c main_arg3) (memAt m c main_arg4)
    (memAt m c main_arg5) (memAt m c main_arg6)
/-- The certificate's element of the launch, dealt. -/
def G (c : Dev nD) : sProp 𝕄 :=
  iprop((bigSep Finset.univ fun i : CellIx => roundState ER (sched (msgs m)) (cellAt c i) 0)
    ∗ (posns c ∗ bigSep Finset.univ fun i : CellIx => reached ER (cellAt c i) 0) ∗ bigSep Finset.univ fun t : TokIx => tok (c, t))
/-- What the global step makes of it and the semaphores. -/
def G' (c : Dev nD) : sProp 𝕄 :=
  iprop((∃ K, recs (msgs m) K) ∗ (posns c ∗ payToks c) ∗ localZero c ∗ idleZero c)
/-- What a device's kernel starts from, its scratch apart. -/
def start (c : Dev nD) : sProp 𝕄 :=
  iprop((∃ K, recs (msgs m) K) ∗ exch c ∗ levAts L lv ∗ (localZero c ∗ idleZero c) ∗ argsOf m c
    ∗ (∃ f, own c (Memref.whole main_v1) f))
/-- Before the kernel. -/
def Φ₀ (c : Dev nD) : sProp 𝕄 := iprop(start m c ∗ scratchAny c ∗ slots c)
/-- After it. -/
def Φ₁ (c : Dev nD) : sProp 𝕄 :=
  iprop((argsOf m c ∗ own c (Memref.whole main_v1) (result m c)) ∗ (localZero c ∗ idleZero c ∗ cellsZero c) ∗ scratchAny c ∗ slots c)

def dats (_ : Fin 1) (c : Dev nD) : Dat τ (Elt F) Bool ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => owed c left0
    | ⟨_ + 1, _⟩ => 0

theorem no_windows (Φ : Fin cfg0.W → sProp 𝕄) : bigSep Finset.univ Φ = iprop(emp) := BI.bigSep_empty

/-- The kernel's run, in the launch's terms. -/
theorem body_obligation (c : Dev nD) : BodyObligation (dats (F := F) m 0 c) (defs₀ (F := F)) 𝒱₀ false Set.univ := fun t => by
  rw [fin_N0 t, no_windows, no_windows]
  show iprop(Φ₀ m c ∗ (dats m 0 c).owesAt false t0_0.castSucc ∗ emp)
    ⊢ wp frame (wpE (defs₀ (F := F)) 𝒱₀ c none) Set.univ (bodyAt0 (F := F) t0_0)
      (fun _ => iprop(Φ₁ m c ∗ (dats m 0 c).owesAt false t0_0.succ ∗ emp))
  unfold Φ₀ start argsOf Dat.owesAt Pipeline.owesWithin
  rw [show (dats m 0 c).owed t0_0.castSucc = owed c left0 from rfl, show (dats m 0 c).owed t0_0.succ = 0 from rfl]
  iintro ⟨⟨⟨⟨%K, Hr⟩, HX, HL, ⟨HZ, HI⟩, HA, HV⟩, HS, Hs⟩, ⟨%W, -, HO⟩, -⟩
  iapply (body_run (msgs m) K c _ _ _ _ _ _ _ W _ (msgs_0 m c) (msgs_1 m c) (msgs_2 m c))
  iframe HA HV HS Hs HZ Hr HX HL HO
  iintro ⟨HA, HV, HS, Hs, HZ, HC, ⟨%W', HO⟩⟩
  unfold Φ₁ argsOf result
  iframe HA HV HZ HI HC HS Hs
  isplitl [HO]
  · iexists W'
    isplitr; · ipureintro; exact fun x _ => Or.inl (Set.mem_univ x)
    iexact HO
  iempintro

/-! ## The global step -/

/-- The cells of the exchange and their duties. -/
def exchCells : Finset (GSem nD τ sig) := Finset.univ.map ⟨_, cellAt_injective⟩
def exchToks : Finset (GSem nD τ sig × ℕ × Fin 3) := Finset.univ.map ⟨tokOf, tokOf_injective⟩
/-- The launch's element: the pipeline's, the exchange's, no local counter. -/
def u₀ : UU := (initOf (Pipeline.cells cfgs cellOf_inj) (Pipeline.launchToks cfgs cellOf_inj), (initOf exchCells exchToks, 1))
theorem split_u₀ : (ownU (u₀ : UU) : sProp 𝕄)
    ⊢ iprop(BI.own (EP (F := F) (initOf (Pipeline.cells cfgs cellOf_inj) (Pipeline.launchToks cfgs cellOf_inj)))
      ∗ BI.own (ER (F := F) (initOf exchCells exchToks))) :=
  BI.own_op_elim ((uEmb (nD := nD) (sig := sig) (Ix := Bool) (Val := Elt F) (Name := ℕ) (U := UU) (Lvl := ℕ)).toEmb.op_of_mem
    (Prod.mk_mem_op (URA.mem_op_one _) (URA.mem_one_op (initOf exchCells exchToks, (1 : Counters)))))

/-- A family over the exchange's cells is one over the devices, of each one's cells. -/
theorem over_cells (Φ : GSem nD τ sig → sProp 𝕄) :
    bigSep exchCells Φ = bigSep Finset.univ fun c : Dev nD => bigSep Finset.univ fun i : CellIx => Φ (cellAt c i) := by
  unfold exchCells; rw [BI.bigSep_map, BI.bigSep_univ_prod]; rfl
theorem over_toks (Φ : GSem nD τ sig × ℕ × Fin 3 → sProp 𝕄) :
    bigSep exchToks Φ = bigSep Finset.univ fun c : Dev nD => bigSep Finset.univ fun t : TokIx => Φ (tokOf (c, t)) := by
  unfold exchToks; rw [BI.bigSep_map, BI.bigSep_univ_prod]; rfl

/-- The exchange's element deals every device its share. -/
theorem fund : BI.own (ER (F := F) (initOf exchCells exchToks)) ⊢ (|==> bigSep Finset.univ (G m) : sProp 𝕄) := by
  iintro HX
  imod (Rounds.fund ER (sched (msgs m)) exchCells exchToks) $$ HX with ⟨Hst, Hr, Hat, Htok⟩
  imodintro
  ihave Hst := (Entails.of_eq (over_cells fun g => roundState ER (sched (msgs m)) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_toks fun x => dutyTok ER x.1 x.2.1 x.2.2)) $$ Htok
  unfold G posns; simp only [bigSep_sep']
  iframe Hst Hat Hr Htok

/-- A device's cells, each recorded under some name. -/
def named (c : Dev nD) : sProp 𝕄 :=
  bigSep Finset.univ fun i : CellIx => iprop(∃ κ : ℕ, cellInv ER (sched (msgs m)) κ (cellAt c i))
/-- Every device's counters and round states become its cells' records. -/
theorem cells_alloc (c : Dev nD) :
    iprop(Pipeline.ownSems0 (Ix := Bool) (Name := ℕ) (U := UU) (Lvl := ℕ) (Val := Elt F) (τ := τ) osem c ∗ unscopedSems0 c ∗ G m c)
      ⊢ |={Set.univ}=> iprop(named m c ∗ (bigSep Finset.univ fun i : CellIx => reached ER (cellAt c i) 0)
        ∗ (bigSep Finset.univ fun t : TokIx => tok (c, t)) ∗ posns c ∗ localZero c ∗ idleZero c) := by
  have hz : cellsZero (F := F) c = bigSep Finset.univ fun i : CellIx => semVal (cellAt c i) 0 := by rw [cells_eq]; rfl
  unfold G
  iintro ⟨Hos, Hus, Hst, ⟨Hat, Hr⟩, Htok⟩
  ihave Hv := (Entails.of_eq (sems_eq (F := F) c)) $$ [Hos Hus]
  · iframe Hos Hus
  icases Hv with ⟨HL, HI, HC⟩
  ihave HC := (Entails.of_eq hz) $$ HC
  imod (show iprop((bigSep Finset.univ fun i : CellIx => semVal (cellAt c i) 0)
        ∗ bigSep Finset.univ fun i : CellIx => roundState ER (sched (msgs m)) (cellAt c i) 0) ⊢ (|={Set.univ}=> named m c : sProp 𝕄) from by
      rw [← bigSep_sep']
      exact (bigSep_mono fun i _ => (Rounds.body_intro ER (sched (msgs m)) (cellAt c i)).trans inv_alloc).trans (bigSep_fupd _ _))
    $$ [HC Hst] with Hinv
  · iframe HC Hst
  imodintro
  iframe Hinv Hr Htok Hat HL HI

/-- A persistent fact serves every member of a family. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records shared and the duties dealt to the devices that pay them. -/
theorem regroup : (bigSep Finset.univ fun c : Dev nD => iprop(named m c ∗ (bigSep Finset.univ fun i : CellIx => reached ER (cellAt c i) 0)
      ∗ (bigSep Finset.univ fun t : TokIx => tok (c, t)) ∗ posns c ∗ localZero c ∗ idleZero c) : sProp 𝕄)
    ⊢ bigSep Finset.univ (G' m) := by
  simp only [bigSep_sep']
  unfold named
  rw [toks_dealt, ← BI.bigSep_univ_prod (fun x : Dev nD × CellIx => iprop(∃ κ : ℕ, cellInv ER (sched (msgs m)) κ (cellAt x.1 x.2))),
    ← BI.bigSep_univ_prod (fun x : Dev nD × CellIx => (reached ER (cellAt x.1 x.2) 0 : sProp 𝕄))]
  iintro ⟨HI, #HR, Htok, Hat, HL, HZ⟩
  ihave HK := (BI.bigSep_exists_pi Finset.univ
    (fun (x : Dev nD × CellIx) (κ : ℕ) => (cellInv ER (sched (msgs m)) κ (cellAt x.1 x.2) : sProp 𝕄))) $$ HI
  icases HK with ⟨%K, #HI⟩
  iapply (share_out (R := recs (msgs m) K) (Φ := fun c => iprop((posns c ∗ payToks c) ∗ localZero c ∗ idleZero c)) fun c _ => by
    unfold G'
    iintro ⟨#H, H'⟩
    isplitr; · iexists K; iexact H
    iexact H')
  isplitr
  · unfold recs
    isplitl; · iexact HI
    iexact HR
  simp only [bigSep_sep']
  iframe Hat Htok HL HZ

/-- The global step: every device's cells recorded, then regrouped. -/
theorem glob : (bigSep Finset.univ fun c => iprop(Pipeline.ownSems0 (Ix := Bool) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => cells_alloc m c).trans (bigSep_fupd _ _)).trans (BI.fupd_mono (regroup m))

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun d => owed d left0) c ∗ prngReg c (ρ c) ∗ G' m c)
      ⊢ |={Set.univ}=> iprop(start m c ∗ emp) := by
  rw [Pipeline.unscopedRestP_none, unscopedRest0_eq]
  unfold G' start exch
  rw [payToks_eq, posns_eq]
  iintro ⟨⟨H0, H1, H2, H3, H4, H5, H6, H7⟩, HL, Hc, -, HR, ⟨⟨HB, HP⟩, HT, HU⟩, HZ⟩
  ihave Hc := (creds c) $$ Hc
  icases Hc with ⟨HC, HD⟩
  imodintro
  isplitl
  · iframe HR HT HU HB HP HC HD HL HZ
    isplitl [H0 H1 H2 H3 H4 H5 H6]
    · unfold argsOf argsAt
      iframe H0 H1 H2 H3 H4 H5 H6
    iexists _; iexact H7
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq, slots_eq]
  unfold Φ₀ scratchAny
  iintro ⟨Hs, -, H0, H1, H2, H3, H4⟩
  iframe Hs H3 H0 H1 H2 H4

theorem phi1_exit (c : Dev nD) :
    (dats m 0 c).Φ (Fin.last cfg0.N)
      ⊢ iprop((argsOf m c ∗ own c (Memref.whole main_v1) (result m c) ∗ unscopedSems0 c) ∗ Pipeline.ownSems0 osem c
        ∗ Pipeline.scopedRest cfg0.spec c) := by
  rw [show (dats m 0 c).Φ (Fin.last cfg0.N) = Φ₁ m c from rfl, scopedRest0_eq, slots_eq]
  unfold Φ₁ scratchAny
  rw [← sems_eq]
  iintro ⟨⟨HA, HV⟩, ⟨HO, HU⟩, ⟨H0, H1, H2, H4⟩, H3⟩
  iframe HA HV HU HO H0 H1 H2 H3 H4

/-- The arguments, as a list. -/
abbrev argRef : Fin 7 → Ref sig .tc := ![main_arg0, main_arg1, main_arg2, main_arg3, main_arg4, main_arg5, main_arg6]
/-- What a final memory holds on device `c`: the arguments as before, the result, and no counter raised. -/
def Done (c : Dev nD) (s : MemSt nD τ sig (Elt F)) : Prop :=
  ((∀ i : Fin 7, s.mem ((c : Thread nD τ).loc (argRef i)) = m ((c : Thread nD τ).loc (argRef i)))
    ∧ s.mem ((c : Thread nD τ).loc main_v1) = result m c)
  ∧ ∀ sm : SemLoc sig, sm.isScoped .tc = false → s.sem ((c.tc : Thread nD τ), sm) = 0

theorem read_done (c : Dev nD) (s' : Phys nD τ sig (Elt F)) :
    iprop((argsOf m c ∗ own c (Memref.whole main_v1) (result m c) ∗ unscopedSems0 c) ∗ emp ∗ SI s')
      ⊢ (|={Set.univ}=> iprop(⌜Done m c s'.mem⌝ ∗ SI s') : sProp 𝕄) := by
  have ha : argsOf m c = (bigSep Finset.univ fun i : Fin 7 =>
      (((c : Thread nD τ).loc (argRef i)) ↦{fullShare} m ((c : Thread nD τ).loc (argRef i)) : sProp 𝕄)) :=
    (bigSep_eq_bigSepL_of_eq (S := (Finset.univ : Finset (Fin 7))) [0, 1, 2, 3, 4, 5, 6] (by decide) (by decide)
      (fun i => (((c : Thread nD τ).loc (argRef i)) ↦{fullShare} m ((c : Thread nD τ).loc (argRef i)) : sProp 𝕄))).symm
  have hv : own c (Memref.whole main_v1) (result m c) = (bigSep Finset.univ fun _ : Unit =>
      (((c : Thread nD τ).loc main_v1) ↦{fullShare} result m c : sProp 𝕄)) :=
    (BI.bigSep_univ_of_subsingleton (Φ := fun _ : Unit => (((c : Thread nD τ).loc main_v1) ↦{fullShare} result m c : sProp 𝕄)) ()).symm
  rw [ha, hv]
  iintro ⟨⟨HA, HV, HU⟩, -, HSI⟩
  ihave H := (pointsTo_read_all' Finset.univ (fun i : Fin 7 => (c : Thread nD τ).loc (argRef i))
    (fun i => m ((c : Thread nD τ).loc (argRef i))) s' fun _ => fullShare) $$ [HA HSI]
  · iframe HA HSI
  icases H with ⟨%hA, HSI⟩
  ihave H := (pointsTo_read_all' Finset.univ (fun _ : Unit => (c : Thread nD τ).loc main_v1)
    (fun _ => result m c) s' fun _ => fullShare) $$ [HV HSI]
  · iframe HV HSI
  icases H with ⟨%hV, HSI⟩
  imod (Pipeline.unscopedSems0_read (X := unscopedSems0 c) (c := c) fupd_intro s') $$ [HU HSI] with ⟨%hU, HSI⟩
  · iframe HU HSI
  imodintro
  isplitr
  · ipureintro; exact ⟨⟨fun i => hA i (Finset.mem_univ i), hV () (Finset.mem_univ _)⟩, hU⟩
  iexact HSI

theorem waits (c : Dev nD) : (levAts L lv : sProp 𝕄) ⊢ Pipeline.cellsWaits cfgs (dats m) false 0 c :=
  Pipeline.cellsWaits_intro cfgs (dats m) false 0 c fun w => w.elim0

/-! ## The run -/

set_option maxRecDepth 8000 in
/-- On the four devices, for any float values, from any memory with its counters at zero, every weakly fair execution
    terminates without fault, and every final memory holds the arguments as before, each device's `result`, and every
    counter at zero. -/
theorem run_main : θ_run defs (onTc (τ := τ) (main (F := F))) ⟨m, fun _ => 0, ρ⟩
    (fun r => (∀ c : Dev nD, (∀ i : Fin 7, r.2.mem ((c : Thread nD τ).loc (argRef i)) = m ((c : Thread nD τ).loc (argRef i)))
      ∧ r.2.mem ((c : Thread nD τ).loc main_v1) = result m c) ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun d => owed d left0) (howed₀ := fun _ => rfl) (howedN := fun _ => rfl)
    (L := L) (lv := lv) (hL := L_of_ne) (hwaits := waits m)
    (G := G m) (G' := G' m) (u₀ := u₀)
    (hu₀ := by
      iintro Hu
      ihave H := split_u₀ $$ Hu
      icases H with ⟨HP, HX⟩
      imod (fund m) $$ HX with HG
      imodintro
      iframe HP HG)
    (hglob := glob m)
    (hA := fun _ w => w.elim0) (hpf := fun _ k => k.elim0)
    (X := start m) (Y := fun c => iprop(argsOf m c ∗ own c (Memref.whole main_v1) (result m c) ∗ unscopedSems0 c)) (Z := fun _ => iprop(emp))
    (hX := start_intro m ρ) (hin := phi0_intro m) (hout := phi1_exit m)
    (QY := Done m)
    (hY := read_done m)
    (hQ := fun _ h hs => ⟨fun c => (h c).2.2.1, sem_eq_zero hs fun c => (h c).2.2.2⟩)

end Cert.MlpProof
-- ==== Proof.Layers.lean ====
/-
  Over the ideal values: a layer's four partial sums add up to the whole layer, so the kernel's result is the three layers
  of the whole weights, which is what the reference computes.
-/
module

public import proofs.«01_k».proof.Defs
public import proofs.«01_k».proof.Proof.Gen.ReferenceIdeal
public import proofs.«01_k».proof.Proof.Gen.ReferenceIdeal.Run
public import Idealize.ShloMosaic.Lib.ValueIdx
public import Idealize.ShloMosaic.Lib.MatmulPlain
public import Idealize.ShloMosaic.Lib.StackMember
public import Idealize.ShloMosaic.Lib.Layout
public import Idealize.ShloMosaic.Lib.Pipeline.Value
public import proofs.«01_k».proof.Proof.Launch

@[expose] public section

noncomputable section

namespace Cert.MlpProof

open Cert.KernelIdeal Cert.KernelIdeal.Gen

open Idealize.ShloMosaic Idealize.ShloMosaic.TcCoe Idealize.ShloMosaic.ValueIdx Idealize.SL.Sem
open scoped BigOperators

/-! ## A device's products, read at an index -/

/-- A layer's partial sum at row `r` and column `c`: over the device's hidden columns, the positive part of the hidden
    activation times the second weight. -/
theorem hidden_apply (h : FVec Ideal S64x1024 .f32) (o : FVec Ideal S1024x512 .f32) (r : Fin 64) (c : Fin 512) :
    hidden h o (ix2 r c) = ∑ j : Fin 1024, max (h (ix2 r j)) 0 * o (ix2 j c) := by
  refine (Ideal.matmul_plain_apply (M := 64) (K := 1024) (N := 512) none _ _ _ r c).trans ?_
  rw [show constant (F := Ideal) S64x512 .f32 0x00000000#32 (ix2 r c) = 0 from Ideal.ofBits_zero_f32, zero_add]
  refine Finset.sum_congr rfl fun j _ => ?_
  show max (h (ix2 r j)) (Ideal.ofBits .f32 0x00000000#32) * o (ix2 j c) = _
  rw [Ideal.ofBits_zero_f32]

/-- The product with 512 of a device's columns at row `r` and column `j`. -/
theorem half_apply (x : FVec Ideal S64x512 .f32) (a : FVec Ideal S512x512 .f32) (r : Fin 64) (j : Fin 512) :
    half x a (ix2 r j) = ∑ k : Fin 512, x (ix2 r k) * a (ix2 k j) := by
  refine (Ideal.matmul_plain_apply (M := 64) (K := 512) (N := 512) none _ _ _ r j).trans ?_
  rw [show constant (F := Ideal) S64x512 .f32 0x00000000#32 (ix2 r j) = 0 from Ideal.ofBits_zero_f32, zero_add]
  rfl

/-- A device's partial sum of a layer is the sum over its hidden columns of the positive part of the activations' product with the column, times
    the second weight. -/
theorem partB_apply (y : FVec Ideal S64x512 .f32) (w : FVec Ideal S512x1024 .f32) (o : FVec Ideal S1024x512 .f32)
    (r : Fin 64) (c : Fin 512) :
    partB y w o (ix2 r c) = ∑ j : Fin 1024, max (∑ k : Fin 512, y (ix2 r k) * w (ix2 k j)) 0 * o (ix2 j c) := by
  refine (hidden_apply _ o r c).trans (Finset.sum_congr rfl fun j _ => ?_)
  congr 2
  refine (Ideal.matmul_plain_apply (M := 64) (K := 512) (N := 1024) none _ _ _ r j).trans ?_
  rw [show constant (F := Ideal) S64x1024 .f32 0x00000000#32 (ix2 r j) = 0 from Ideal.ofBits_zero_f32, zero_add]
  rfl

/-- Taking the first product in two halves of the columns changes nothing. -/
theorem partA_eq_partB (x : FVec Ideal S64x512 .f32) (w : (main_arg1 : Ref sig .tc).ty.Contents (Elt Ideal)) (o : FVec Ideal S1024x512 .f32) :
    partA x (aOf w) (bOf w) o = partB x w o := by
  funext i
  obtain ⟨r, c, rfl⟩ : ∃ (r : Fin 64) (c : Fin 512), i = ix2 r c := ⟨i 0, i 1, eq_ix2 i⟩
  rw [partB_apply]
  refine (hidden_apply _ o r c).trans (Finset.sum_congr rfl fun j _ => ?_)
  congr 2
  by_cases hj : j.val < 512
  · refine (concatenate_pair_apply_left (s₁ := S64x512) (s₂ := S64x512) 1 _ _ _ (ix2 r j) rfl (ix2 r (⟨j.val, hj⟩ : Fin 512))
      (by intro b; match b with | ⟨0, _⟩ => rfl | ⟨1, _⟩ => rfl)).trans ((half_apply ..).trans ?_)
    refine Finset.sum_congr rfl fun k _ => congrArg (x (ix2 r k) * ·) (congrArg w ?_)
    funext b; apply Fin.ext
    match b with
    | ⟨0, _⟩ => show 0 + 1 * k.val = k.val; omega
    | ⟨1, _⟩ => show 0 + 1 * j.val = j.val; omega
  · refine (concatenate_pair_apply_right (s₁ := S64x512) (s₂ := S64x512) 1 _ _ _ (ix2 r j) rfl rfl (ix2 r (⟨j.val - 512, by omega⟩ : Fin 512))
      (by intro b hb; match b with | ⟨0, _⟩ => rfl | ⟨1, _⟩ => exact absurd rfl hb) (by show j.val - 512 + 512 = j.val; omega)).trans ((half_apply ..).trans ?_)
    refine Finset.sum_congr rfl fun k _ => congrArg (x (ix2 r k) * ·) (congrArg w ?_)
    funext b; apply Fin.ext
    match b with
    | ⟨0, _⟩ => show 0 + 1 * k.val = k.val; omega
    | ⟨1, _⟩ => show 512 + 1 * (j.val - 512) = j.val; omega

/-! ## A layer of the whole weights -/

/-- A layer as the reference computes it. -/
def layer (y : FVec Ideal S64x512 .f32) (w : FVec Ideal Cert.ReferenceIdeal.S512x4096 .f32) (o : FVec Ideal Cert.ReferenceIdeal.S4096x512 .f32) :
    FVec Ideal S64x512 .f32 :=
  Host.dotGeneral Cert.ReferenceIdeal.dot_S64x4096_S4096x512_S64x512_1_0_0_1_n_n none
    (maximumf (Host.dotGeneral Cert.ReferenceIdeal.dot_S64x512_S512x4096_S64x4096_1_0_0_1_n_n none y w)
      (broadcastInDim Cert.ReferenceIdeal.S64x4096 ![] Cert.ReferenceIdeal.Facts₀.bcast_S_S64x4096
        (constant Cert.ReferenceIdeal.S_ .f32 0x00000000#32))) o

/-- It is the sum over all the hidden columns. -/
theorem layer_apply (y : FVec Ideal S64x512 .f32) (w : FVec Ideal Cert.ReferenceIdeal.S512x4096 .f32)
    (o : FVec Ideal Cert.ReferenceIdeal.S4096x512 .f32) (r : Fin 64) (c : Fin 512) :
    layer y w o (ix2 r c) = ∑ j : Fin 4096, max (∑ k : Fin 512, y (ix2 r k) * w (ix2 k j)) 0 * o (ix2 j c) := by
  refine (StackMember.dotGeneral_plain_apply (m := 64) (k := 4096) (n := 512) none _ o r c).trans (Finset.sum_congr rfl fun j _ => ?_)
  show max (Host.dotGeneral (DotDims.plain 64 512 4096) none y w (ix2 r j)) (Ideal.ofBits .f32 0x00000000#32) * o (ix2 j c) = _
  rw [StackMember.dotGeneral_plain_apply, Ideal.ofBits_zero_f32]

/-- The four devices' partial sums, each from its block of the weights, add up to the layer. -/
theorem layer_blocks (y : FVec Ideal S64x512 .f32) (w : FVec Ideal Cert.ReferenceIdeal.S512x4096 .f32)
    (o : FVec Ideal Cert.ReferenceIdeal.S4096x512 .f32) (i : S64x512.Idx) :
    ∑ d : Fin 4, partB y (Layout.block ⟨2, ![512, 1024]⟩ ⟨2, ![512, 4096]⟩ 1 4 d w)
      (Layout.block ⟨2, ![1024, 512]⟩ ⟨2, ![4096, 512]⟩ 0 4 d o) i = layer y w o i := by
  obtain ⟨r, c, rfl⟩ : ∃ (r : Fin 64) (c : Fin 512), i = ix2 r c := ⟨i 0, i 1, eq_ix2 i⟩
  rw [layer_apply, ← Equiv.sum_comp (finProdFinEquiv (m := 4) (n := 1024)), Fintype.sum_prod_type]
  refine Finset.sum_congr rfl fun d _ => (partB_apply ..).trans (Finset.sum_congr rfl fun j _ => ?_)
  refine congrArg₂ (fun a b : EReal => max a 0 * b) (Finset.sum_congr rfl fun k _ => congrArg (y (ix2 r k) * ·) (congrArg w ?_)) (congrArg o ?_)
  · funext b; apply Fin.ext
    match b with
    | ⟨0, _⟩ => rfl
    | ⟨1, _⟩ => show d.val * 1024 + j.val = j.val + 1024 * d.val; omega
  · funext b; apply Fin.ext
    match b with
    | ⟨0, _⟩ => show d.val * 1024 + j.val = j.val + 1024 * d.val; omega
    | ⟨1, _⟩ => rfl

/-! ## The exchange -/

/-- A sum over the devices is the member at `c` and the members at `c`'s peers, in the order they are awaited. -/
theorem sum_devs (c : Dev nD) (f : Dev nD → EReal) : f c + f (rot 0 c) + f (rot 2 c) + f (rot 1 c) = ∑ d : Fin 4, f d := by
  have h : (Finset.univ : Finset (Dev nD)) = {c, rot 0 c, rot 2 c, rot 1 c} := by revert c; decide
  have n : c ≠ rot 0 c ∧ c ≠ rot 2 c ∧ c ≠ rot 1 c ∧ rot 0 c ≠ rot 2 c ∧ rot 0 c ≠ rot 1 c ∧ rot 2 c ≠ rot 1 c := by revert c; decide
  show _ = ∑ d ∈ (Finset.univ : Finset (Dev nD)), f d
  rw [h, Finset.sum_insert (by simp [n]), Finset.sum_insert (by simp [n]), Finset.sum_insert (by simp [n]), Finset.sum_singleton,
    add_assoc, add_assoc]

/-- What a slot gives back of a partial sum. -/
theorem dec_enc (p : FVec Ideal S64x512 .f32) : dec (enc p) = p := shapeCast_shapeCast p shapeCasts_S64x512_S1x1x1x64x512 shapeCasts_S1x1x1x64x512_S64x512

/-- When every device has sent its partial sum, a device's sum is the layer's. -/
theorem comb_eq {cm : Fin 3 → Dev nD → Vec Ideal S1x1x1x64x512 .bf16} {k : Fin 3} {q : Dev nD → FVec Ideal S64x512 .f32}
    (h : ∀ d, cm k d = enc (q d)) (c : Dev nD) : comb cm k c (q c) = fun i => ∑ d : Fin 4, q d i := by
  unfold comb
  rw [h, h, h, dec_enc, dec_enc, dec_enc]
  exact funext fun i => sum_devs c fun d => q d i

/-! ## The result -/

section
variable (m : (ℓ : Loc nD τ sig) → Buf (Elt Ideal) ℓ) (x : FVec Ideal S64x512 .f32)
  (w0 w1 w2 : FVec Ideal Cert.ReferenceIdeal.S512x4096 .f32) (o0 o1 o2 : FVec Ideal Cert.ReferenceIdeal.S4096x512 .f32)

/-- The arguments' layout: the activations whole on every device, the first weights cut by columns, the second by rows. -/
def Laid : Prop := ∀ c : Dev nD,
  memAt m c main_arg0 = x
  ∧ memAt m c main_arg1 = Layout.block ⟨2, ![512, 1024]⟩ ⟨2, ![512, 4096]⟩ 1 4 c w0
  ∧ memAt m c main_arg2 = Layout.block ⟨2, ![1024, 512]⟩ ⟨2, ![4096, 512]⟩ 0 4 c o0
  ∧ memAt m c main_arg3 = Layout.block ⟨2, ![512, 1024]⟩ ⟨2, ![512, 4096]⟩ 1 4 c w1
  ∧ memAt m c main_arg4 = Layout.block ⟨2, ![1024, 512]⟩ ⟨2, ![4096, 512]⟩ 0 4 c o1
  ∧ memAt m c main_arg5 = Layout.block ⟨2, ![512, 1024]⟩ ⟨2, ![512, 4096]⟩ 1 4 c w2
  ∧ memAt m c main_arg6 = Layout.block ⟨2, ![1024, 512]⟩ ⟨2, ![4096, 512]⟩ 0 4 c o2

variable {m x w0 w1 w2 o0 o1 o2} (hl : Laid m x w0 w1 w2 o0 o1 o2) (c : Dev nD)
include hl

/-- Layer 0's partial sum on a device. -/
theorem part0_eq : part0 m c = partB x (Layout.block ⟨2, ![512, 1024]⟩ ⟨2, ![512, 4096]⟩ 1 4 c w0)
    (Layout.block ⟨2, ![1024, 512]⟩ ⟨2, ![4096, 512]⟩ 0 4 c o0) := by
  obtain ⟨h0, h1, h2, -⟩ := hl c
  rw [← h0, ← h1, ← h2]
  exact partA_eq_partB _ _ _

/-- Layer 0's sum on a device is the layer. -/
theorem sum0_eq : comb (msgs m) 0 c (part0 m c) = layer x w0 o0 := by
  rw [comb_eq (msgs_0 m) c]
  funext i
  rw [← layer_blocks]
  exact Finset.sum_congr rfl fun d _ => congrFun (part0_eq hl d) i

/-- Layer 1's partial sum on a device. -/
theorem part1_eq : part1 m (msgs m) c = partB (layer x w0 o0) (Layout.block ⟨2, ![512, 1024]⟩ ⟨2, ![512, 4096]⟩ 1 4 c w1)
    (Layout.block ⟨2, ![1024, 512]⟩ ⟨2, ![4096, 512]⟩ 0 4 c o1) := by
  obtain ⟨-, -, -, h3, h4, -⟩ := hl c
  rw [← h3, ← h4, ← sum0_eq hl c]
  rfl

/-- Layer 1's sum on a device is the layer. -/
theorem sum1_eq : comb (msgs m) 1 c (part1 m (msgs m) c) = layer (layer x w0 o0) w1 o1 := by
  rw [comb_eq (msgs_1 m) c]
  funext i
  rw [← layer_blocks]
  exact Finset.sum_congr rfl fun d _ => congrFun (part1_eq hl d) i

/-- Layer 2's partial sum on a device. -/
theorem part2_eq : part2 m (msgs m) c = partB (layer (layer x w0 o0) w1 o1)
    (Layout.block ⟨2, ![512, 1024]⟩ ⟨2, ![512, 4096]⟩ 1 4 c w2) (Layout.block ⟨2, ![1024, 512]⟩ ⟨2, ![4096, 512]⟩ 0 4 c o2) := by
  obtain ⟨-, -, -, -, -, h5, h6⟩ := hl c
  rw [← h5, ← h6, ← sum1_eq hl c]
  rfl

/-- The result on a device is the three layers. -/
theorem result_eq : result m c = layer (layer (layer x w0 o0) w1 o1) w2 o2 := by
  show comb (msgs m) 2 c (part2 m (msgs m) c) = _
  rw [comb_eq (msgs_2 m) c]
  funext i
  rw [← layer_blocks]
  exact Finset.sum_congr rfl fun d _ => congrFun (part2_eq hl d) i
end

/-- Over the ideal values the kernel's result, the same on every device, is the reference's. -/
theorem algebraic : Cert.algebraic_KernelIdeal_ReferenceIdeal := fun m g m' g' _ h =>
  ⟨_, (θ_run defs _ _).mono (fun r hr c => ⟨(hr.1 c).2.trans (result_eq h c), (hr.1 c).1 0, (hr.1 c).1 1, (hr.1 c).1 2,
      (hr.1 c).1 3, (hr.1 c).1 4, (hr.1 c).1 5, (hr.1 c).1 6⟩) (run_main (F := Ideal) m g),
    (θ_run Cert.ReferenceIdeal.defs _ _).mono (fun r hr => hr 0) (Cert.ReferenceIdeal.Value.run m' g')⟩

end Cert.MlpProof

end
-- ==== Proof.lean ====
/-
  The claims: the three frames, the idealization of the kernel (nothing is rewritten), and that over the ideal values the
  kernel's result on every device is the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent
public import proofs.«01_k».proof.Proof.Layers

@[expose] public section

noncomputable section

namespace Cert.Proof

open Idealize.ShloMosaic Idealize.ShloMosaic.TcCoe Idealize.SL.Sem Cert.MlpProof

/-- The seven arguments unchanged, one by one. -/
theorem unchanged {V : Fin 7 → Prop} (h : ∀ i, V i) : V 0 ∧ V 1 ∧ V 2 ∧ V 3 ∧ V 4 ∧ V 5 ∧ V 6 :=
  ⟨h 0, h 1, h 2, h 3, h 4, h 5, h 6⟩

/-- The kernel over the chip's words ends, the arguments unchanged and every counter at zero. Its text is the
    idealization's, whose run is proved over any values. -/
theorem frame_kernel : Cert.quiescent_Kernel := fun m ρ _ =>
  (θ_run Cert.KernelIdeal.defs _ _).mono (fun _ h => ⟨fun c => unchanged (h.1 c).1, h.2⟩) (run_main (F := Bits) m ρ)

/-- And over the ideal values. -/
theorem frame_kernelIdeal : Cert.quiescent_KernelIdeal := fun m ρ _ =>
  (θ_run Cert.KernelIdeal.defs _ _).mono (fun _ h => ⟨fun c => unchanged (h.1 c).1, h.2⟩) (run_main (F := Ideal) m ρ)

/-- The reference ends, the arguments unchanged and every counter at zero. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

theorem claim : Cert.Claim :=
  ⟨Cert.Kernel.Gen.facts, Cert.KernelIdeal.Gen.facts, Cert.ReferenceIdeal.Gen.facts, frame_kernel, frame_kernelIdeal,
    frame_referenceIdeal, trivial, algebraic⟩

end Cert.Proof

end
